-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S128x17x48x48 : Shape := ⟨4, ![128, 17, 48, 48]⟩
abbrev S128x1x48x48 : Shape := ⟨4, ![128, 1, 48, 48]⟩
abbrev S128x34x48x48 : Shape := ⟨4, ![128, 34, 48, 48]⟩
abbrev S_ : Shape := ⟨0, ![]⟩

class Facts : Prop where
  bcast_S_S128x17x48x48 : S_.BroadcastsInDim S128x17x48x48 (![] : Fin 0 → Fin S128x17x48x48.rank)
  reducesTo_S128x17x48x48_S_d0_1_2_3 : S128x17x48x48.ReducesTo [0, 1, 2, 3] S_
  h_S_ : 0 < S_.numel
  bcast_S_S128x1x48x48 : S_.BroadcastsInDim S128x1x48x48 (![] : Fin 0 → Fin S128x1x48x48.rank)
  reducesTo_S128x1x48x48_S_d0_1_2_3 : S128x1x48x48.ReducesTo [0, 1, 2, 3] S_

variable [Facts]

def fn {F : FTy → Type} [FloatOps F] (main_arg0 : FVec F S128x17x48x48 .f32) (main_arg1 : FVec F S128x1x48x48 .f32) (main_arg2 : FVec F S128x34x48x48 .f32) (main_arg3 : FVec F S128x34x48x48 .f32) : IVec S_ 1 :=
  let main_cst : FVec F S_ .f32 := constant S_ .f32 0x7F800000#32
  let main_v0 : FVec F S128x17x48x48 .f32 := broadcastInDim S128x17x48x48 ![] bcast_S_S128x17x48x48 main_cst
  let main_v1 : IVec S128x17x48x48 1 := cmpf .olt main_arg0 main_v0
  let main_c : IVec S_ 1 := constantI S_ 1 1#1
  let main_v2 : IVec S_ 1 := (fun x v => Host.reduce IntOp.andi x v reducesTo_S128x17x48x48_S_d0_1_2_3 h_S_) main_v1 main_c
  let main_cst_0 : FVec F S_ .f32 := constant S_ .f32 0x7F800000#32
  let main_v3 : FVec F S128x1x48x48 .f32 := broadcastInDim S128x1x48x48 ![] bcast_S_S128x1x48x48 main_cst_0
  let main_v4 : IVec S128x1x48x48 1 := cmpf .olt main_arg1 main_v3
  let main_c_1 : IVec S_ 1 := constantI S_ 1 1#1
  let main_v5 : IVec S_ 1 := (fun x v => Host.reduce IntOp.andi x v reducesTo_S128x1x48x48_S_d0_1_2_3 h_S_) main_v4 main_c_1
  let main_v6 : IVec S_ 1 := andi main_v2 main_v5
  main_v6
-- ==== Kernel.lean ====
abbrev S128x17x48x48 : Shape := ⟨4, ![128, 17, 48, 48]⟩
abbrev S128x1x48x48 : Shape := ⟨4, ![128, 1, 48, 48]⟩
abbrev S128x34x48x48 : Shape := ⟨4, ![128, 34, 48, 48]⟩
abbrev S48x96 : Shape := ⟨2, ![48, 96]⟩
abbrev S128x1x17 : Shape := ⟨3, ![128, 1, 17]⟩
abbrev S4x17x48x48 : Shape := ⟨4, ![4, 17, 48, 48]⟩
abbrev S4x1x48x48 : Shape := ⟨4, ![4, 1, 48, 48]⟩
abbrev S4x34x48x48 : Shape := ⟨4, ![4, 34, 48, 48]⟩
abbrev S4x1x17 : Shape := ⟨3, ![4, 1, 17]⟩
abbrev S4x18x48x48 : Shape := ⟨4, ![4, 18, 48, 48]⟩
abbrev S3456x48 : Shape := ⟨2, ![3456, 48]⟩
abbrev S3456x96 : Shape := ⟨2, ![3456, 96]⟩
abbrev S4x18x48x96 : Shape := ⟨4, ![4, 18, 48, 96]⟩
abbrev S4x18x1x96 : Shape := ⟨4, ![4, 18, 1, 96]⟩
abbrev S4x18x47x96 : Shape := ⟨4, ![4, 18, 47, 96]⟩
abbrev S4x18x1x48x96 : Shape := ⟨5, ![4, 18, 1, 48, 96]⟩
abbrev S4x18x2x48x96 : Shape := ⟨5, ![4, 18, 2, 48, 96]⟩
abbrev S4x1x2x48x96 : Shape := ⟨5, ![4, 1, 2, 48, 96]⟩
abbrev S4x2x48x96 : Shape := ⟨4, ![4, 2, 48, 96]⟩
abbrev S4x17x2x48x96 : Shape := ⟨5, ![4, 17, 2, 48, 96]⟩
abbrev S2x48x96 : Shape := ⟨3, ![2, 48, 96]⟩
abbrev S4 : Shape := ⟨1, ![4]⟩
abbrev S4x1x1x1 : Shape := ⟨4, ![4, 1, 1, 1]⟩
abbrev S1x2x48x96 : Shape := ⟨4, ![1, 2, 48, 96]⟩
abbrev S4x1x1 : Shape := ⟨3, ![4, 1, 1]⟩
abbrev S4x48x48 : Shape := ⟨3, ![4, 48, 48]⟩
abbrev S4x34 : Shape := ⟨2, ![4, 34]⟩
abbrev S4x17x2 : Shape := ⟨3, ![4, 17, 2]⟩
abbrev S4x1 : Shape := ⟨2, ![4, 1]⟩
abbrev S4x17x1 : Shape := ⟨3, ![4, 17, 1]⟩
abbrev S4x17 : Shape := ⟨2, ![4, 17]⟩
abbrev S1x1x2x48x96 : Shape := ⟨5, ![1, 1, 2, 48, 96]⟩
abbrev S4x17x1x1x1 : Shape := ⟨5, ![4, 17, 1, 1, 1]⟩
abbrev S4x17x1x1 : Shape := ⟨4, ![4, 17, 1, 1]⟩
abbrev S4x17x2x48x48 : Shape := ⟨5, ![4, 17, 2, 48, 48]⟩
abbrev S4x17x1x48x48 : Shape := ⟨5, ![4, 17, 1, 48, 48]⟩
abbrev S128x17 : Shape := ⟨2, ![128, 17]⟩
abbrev S128x17x1 : Shape := ⟨3, ![128, 17, 1]⟩
abbrev S128x17x3 : Shape := ⟨3, ![128, 17, 3]⟩
abbrev S128x51 : Shape := ⟨2, ![128, 51]⟩

abbrev nBuf : Space → Nat
  | .hbm => 16
  | .vmem => 15
  | .smem => 0
  | _ => 0

abbrev bufTy : (tb : Table) → Fin (tcTables nBuf tb) → BufTy
  | .hbm, ⟨0, _⟩ => ⟨S128x17x48x48, .f32⟩
  | .hbm, ⟨1, _⟩ => ⟨S128x1x48x48, .f32⟩
  | .hbm, ⟨2, _⟩ => ⟨S128x34x48x48, .f32⟩
  | .hbm, ⟨3, _⟩ => ⟨S128x34x48x48, .f32⟩
  | .hbm, ⟨4, _⟩ => ⟨S48x96, .f32⟩
  | .hbm, ⟨5, _⟩ => ⟨S128x1x17, .f32⟩
  | .hbm, ⟨6, _⟩ => ⟨S128x1x17, .f32⟩
  | .hbm, ⟨7, _⟩ => ⟨S128x1x17, .f32⟩
  | .hbm, ⟨8, _⟩ => ⟨S128x17, .f32⟩
  | .hbm, ⟨9, _⟩ => ⟨S128x17, .f32⟩
  | .hbm, ⟨10, _⟩ => ⟨S128x17, .f32⟩
  | .hbm, ⟨11, _⟩ => ⟨S128x17x1, .f32⟩
  | .hbm, ⟨12, _⟩ => ⟨S128x17x1, .f32⟩
  | .hbm, ⟨13, _⟩ => ⟨S128x17x1, .f32⟩
  | .hbm, ⟨14, _⟩ => ⟨S128x17x3, .f32⟩
  | .hbm, ⟨15, _⟩ => ⟨S128x51, .f32⟩
  | .local _ .vmem, ⟨0, _⟩ => ⟨S4x17x48x48, .f32⟩
  | .local _ .vmem, ⟨1, _⟩ => ⟨S4x17x48x48, .f32⟩
  | .local _ .vmem, ⟨2, _⟩ => ⟨S4x1x48x48, .f32⟩
  | .local _ .vmem, ⟨3, _⟩ => ⟨S4x1x48x48, .f32⟩
  | .local _ .vmem, ⟨4, _⟩ => ⟨S4x34x48x48, .f32⟩
  | .local _ .vmem, ⟨5, _⟩ => ⟨S4x34x48x48, .f32⟩
  | .local _ .vmem, ⟨6, _⟩ => ⟨S4x34x48x48, .f32⟩
  | .local _ .vmem, ⟨7, _⟩ => ⟨S4x34x48x48, .f32⟩
  | .local _ .vmem, ⟨8, _⟩ => ⟨S48x96, .f32⟩
  | .local _ .vmem, ⟨9, _⟩ => ⟨S4x1x17, .f32⟩
  | .local _ .vmem, ⟨10, _⟩ => ⟨S4x1x17, .f32⟩
  | .local _ .vmem, ⟨11, _⟩ => ⟨S4x1x17, .f32⟩
  | .local _ .vmem, ⟨12, _⟩ => ⟨S4x1x17, .f32⟩
  | .local _ .vmem, ⟨13, _⟩ => ⟨S4x1x17, .f32⟩
  | .local _ .vmem, ⟨14, _⟩ => ⟨S4x1x17, .f32⟩
  | _, _ => ⟨S128x17x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x17x48x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x48x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x34x48x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x34x48x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S48x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1x17 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x17 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x17 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x17x48x48 : Shape := ⟨4, ![128, 17, 48, 48]⟩
abbrev S128x1x48x48 : Shape := ⟨4, ![128, 1, 48, 48]⟩
abbrev S128x34x48x48 : Shape := ⟨4, ![128, 34, 48, 48]⟩
abbrev S96 : Shape := ⟨1, ![96]⟩
abbrev S_ : Shape := ⟨0, ![]⟩
abbrev S1x96 : Shape := ⟨2, ![1, 96]⟩
abbrev S48 : Shape := ⟨1, ![48]⟩
abbrev S48x1 : Shape := ⟨2, ![48, 1]⟩
abbrev S48x96 : Shape := ⟨2, ![48, 96]⟩
abbrev S128x17x48x96 : Shape := ⟨4, ![128, 17, 48, 96]⟩
abbrev S128x17x96x96 : Shape := ⟨4, ![128, 17, 96, 96]⟩
abbrev S128x1x48x96 : Shape := ⟨4, ![128, 1, 48, 96]⟩
abbrev S128x1x96x96 : Shape := ⟨4, ![128, 1, 96, 96]⟩
abbrev S128x34x48x96 : Shape := ⟨4, ![128, 34, 48, 96]⟩
abbrev S128x34x96x96 : Shape := ⟨4, ![128, 34, 96, 96]⟩
abbrev S128x9216 : Shape := ⟨2, ![128, 9216]⟩
abbrev S128 : Shape := ⟨1, ![128]⟩
abbrev S1x1x1x96 : Shape := ⟨4, ![1, 1, 1, 96]⟩
abbrev S1x1x96x1 : Shape := ⟨4, ![1, 1, 96, 1]⟩
abbrev S128x1 : Shape := ⟨2, ![128, 1]⟩
abbrev S128x3 : Shape := ⟨2, ![128, 3]⟩
abbrev S128x34 : Shape := ⟨2, ![128, 34]⟩
abbrev S128x17x2 : Shape := ⟨3, ![128, 17, 2]⟩
abbrev S128x17x1 : Shape := ⟨3, ![128, 17, 1]⟩
abbrev S128x17 : Shape := ⟨2, ![128, 17]⟩
abbrev S128x17x1x1 : Shape := ⟨4, ![128, 17, 1, 1]⟩
abbrev S128x17x1x96 : Shape := ⟨4, ![128, 17, 1, 96]⟩
abbrev S128x17x96x1 : Shape := ⟨4, ![128, 17, 96, 1]⟩
abbrev S128x17x9216 : Shape := ⟨3, ![128, 17, 9216]⟩
abbrev S17 : Shape := ⟨1, ![17]⟩
abbrev S1x17 : Shape := ⟨2, ![1, 17]⟩
abbrev S128x17x2x96x96 : Shape := ⟨5, ![128, 17, 2, 96, 96]⟩
abbrev S128x17x4 : Shape := ⟨3, ![128, 17, 4]⟩
abbrev S128x17x3 : Shape := ⟨3, ![128, 17, 3]⟩
abbrev S128x51 : Shape := ⟨2, ![128, 51]⟩

abbrev nBuf : Space → Nat
  | .hbm => 198
  | .vmem => 0
  | .smem => 0
  | _ => 0

abbrev hbmTy0_0 (i : Nat) : BufTy := match i % 128 with
  | 0 => ⟨S128x17x48x48, .f32⟩
  | 1 => ⟨S128x1x48x48, .f32⟩
  | 2 => ⟨S128x34x48x48, .f32⟩
  | 3 => ⟨S128x34x48x48, .f32⟩
  | 4 => ⟨S96, .f32⟩
  | 5 => ⟨S_, .f32⟩
  | 6 => ⟨S96, .f32⟩
  | 7 => ⟨S96, .f32⟩
  | 8 => ⟨S_, .f32⟩
  | 9 => ⟨S96, .f32⟩
  | 10 => ⟨S96, .f32⟩
  | 11 => ⟨S_, .f32⟩
  | 12 => ⟨S96, .f32⟩
  | 13 => ⟨S96, .f32⟩
  | 14 => ⟨S1x96, .f32⟩
  | 15 => ⟨S48, .f32⟩
  | 16 => ⟨S48x1, .f32⟩
  | 17 => ⟨S48x96, .f32⟩
  | 18 => ⟨S48x96, .f32⟩
  | 19 => ⟨S48x96, .f32⟩
  | 20 => ⟨S48x96, .f32⟩
  | 21 => ⟨S_, .f32⟩
  | 22 => ⟨S48x96, .f32⟩
  | 23 => ⟨S48x96, .f32⟩
  | 24 => ⟨S_, .f32⟩
  | 25 => ⟨S48x96, .f32⟩
  | 26 => ⟨S48x96, .f32⟩
  | 27 => ⟨S_, .f32⟩
  | 28 => ⟨S96, .f32⟩
  | 29 => ⟨S1x96, .f32⟩
  | 30 => ⟨S48x96, .f32⟩
  | 31 => ⟨S48x96, .f32⟩
  | 32 => ⟨S128x17x48x96, .f32⟩
  | 33 => ⟨S128x17x96x96, .f32⟩
  | 34 => ⟨S128x1x48x96, .f32⟩
  | 35 => ⟨S128x1x96x96, .f32⟩
  | 36 => ⟨S128x34x48x96, .f32⟩
  | 37 => ⟨S128x34x96x96, .f32⟩
  | 38 => ⟨S128x34x48x96, .f32⟩
  | 39 => ⟨S128x34x96x96, .f32⟩
  | 40 => ⟨S128x9216, .f32⟩
  | 41 => ⟨S128x9216, .i32⟩
  | 42 => ⟨S_, .f32⟩
  | 43 => ⟨S_, .i32⟩
  | 44 => ⟨S128, .f32⟩
  | 45 => ⟨S128, .i32⟩
  | 46 => ⟨S_, .i32⟩
  | 47 => ⟨S128, .i32⟩
  | 48 => ⟨S128, .i32⟩
  | 49 => ⟨S_, .i32⟩
  | 50 => ⟨S_, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S_, .i32⟩
  | 58 => ⟨S128, .i32⟩
  | 59 => ⟨S128, .i32⟩
  | 60 => ⟨S_, .i32⟩
  | 61 => ⟨S_, .i32⟩
  | 62 => ⟨S_, .i32⟩
  | 63 => ⟨S128, .i32⟩
  | 64 => ⟨S128, .i32⟩
  | 65 => ⟨S_, .i32⟩
  | 66 => ⟨S128, .i32⟩
  | 67 => ⟨S128, .i32⟩
  | 68 => ⟨S96, .f32⟩
  | 69 => ⟨S1x1x1x96, .f32⟩
  | 70 => ⟨S96, .f32⟩
  | 71 => ⟨S1x1x96x1, .f32⟩
  | 72 => ⟨S128, .i32⟩
  | 73 => ⟨S128x1, .i32⟩
  | 74 => ⟨S128x1, .i32⟩
  | 75 => ⟨S128x1, .i32⟩
  | 76 => ⟨S128x3, .i32⟩
  | 77 => ⟨S128x34, .f32⟩
  | 78 => ⟨S128x17x2, .f32⟩
  | 79 => ⟨S_, .f32⟩
  | 80 => ⟨S128x17x2, .f32⟩
  | 81 => ⟨S128x17x2, .f32⟩
  | 82 => ⟨S128x1, .i32⟩
  | 83 => ⟨S128x1, .f32⟩
  | 84 => ⟨S128x17x1, .f32⟩
  | 85 => ⟨S128x17, .f32⟩
  | 86 => ⟨S128x17, .f32⟩
  | 87 => ⟨S128x17, .f32⟩
  | 88 => ⟨S_, .f32⟩
  | 89 => ⟨S_, .f32⟩
  | 90 => ⟨S_, .f32⟩
  | 91 => ⟨S128x17, .f32⟩
  | 92 => ⟨S128x17, .f32⟩
  | 93 => ⟨S_, .f32⟩
  | 94 => ⟨S128x17, .f32⟩
  | 95 => ⟨S128x17, .f32⟩
  | 96 => ⟨S128x1, .i32⟩
  | 97 => ⟨S128x1, .f32⟩
  | 98 => ⟨S128x17x1, .f32⟩
  | 99 => ⟨S128x17, .f32⟩
  | 100 => ⟨S128x17, .f32⟩
  | 101 => ⟨S128x17, .f32⟩
  | 102 => ⟨S_, .f32⟩
  | 103 => ⟨S_, .f32⟩
  | 104 => ⟨S_, .f32⟩
  | 105 => ⟨S128x17, .f32⟩
  | 106 => ⟨S128x17, .f32⟩
  | 107 => ⟨S_, .f32⟩
  | 108 => ⟨S128x17, .f32⟩
  | 109 => ⟨S128x17, .f32⟩
  | 110 => ⟨S128x17x1x1, .f32⟩
  | 111 => ⟨S128x17x1x96, .f32⟩
  | 112 => ⟨S128x17x1x96, .f32⟩
  | 113 => ⟨S128x17x1x96, .f32⟩
  | 114 => ⟨S128x17x1x96, .f32⟩
  | 115 => ⟨S128x17x1x1, .f32⟩
  | 116 => ⟨S128x17x96x1, .f32⟩
  | 117 => ⟨S128x17x96x1, .f32⟩
  | 118 => ⟨S128x17x96x1, .f32⟩
  | 119 => ⟨S128x17x96x1, .f32⟩
  | 120 => ⟨S128x17x96x96, .f32⟩
  | 121 => ⟨S128x17x96x96, .f32⟩
  | 122 => ⟨S128x17x96x96, .f32⟩
  | 123 => ⟨S_, .f32⟩
  | 124 => ⟨S128x17x96x96, .f32⟩
  | 125 => ⟨S128x17x96x96, .f32⟩
  | 126 => ⟨S128x17x96x96, .f32⟩
  | 127 => ⟨S128x17x96x96, .f32⟩
  | _ => ⟨S128x17x48x48, .f32⟩

abbrev hbmTy0_1 (i : Nat) : BufTy := match i % 128 with
  | 0 => ⟨S_, .f32⟩
  | 1 => ⟨S128x17x96x96, .f32⟩
  | 2 => ⟨S128x17x96x96, .f32⟩
  | 3 => ⟨S128x17x9216, .f32⟩
  | 4 => ⟨S128x17x9216, .i32⟩
  | 5 => ⟨S_, .f32⟩
  | 6 => ⟨S_, .i32⟩
  | 7 => ⟨S128x17, .f32⟩
  | 8 => ⟨S128x17, .i32⟩
  | 9 => ⟨S_, .i32⟩
  | 10 => ⟨S128x17, .i32⟩
  | 11 => ⟨S128x17, .i32⟩
  | 12 => ⟨S_, .i32⟩
  | 13 => ⟨S_, .i32⟩
  | 14 => ⟨S_, .i32⟩
  | 15 => ⟨S128x17, .i32⟩
  | 16 => ⟨S128x17, .i32⟩
  | 17 => ⟨S_, .i32⟩
  | 18 => ⟨S128x17, .i32⟩
  | 19 => ⟨S128x17, .i32⟩
  | 20 => ⟨S_, .i32⟩
  | 21 => ⟨S128x17, .i32⟩
  | 22 => ⟨S128x17, .i32⟩
  | 23 => ⟨S_, .i32⟩
  | 24 => ⟨S_, .i32⟩
  | 25 => ⟨S_, .i32⟩
  | 26 => ⟨S128x17, .i32⟩
  | 27 => ⟨S128x17, .i32⟩
  | 28 => ⟨S_, .i32⟩
  | 29 => ⟨S128x17, .i32⟩
  | 30 => ⟨S128x17, .i32⟩
  | 31 => ⟨S128x1, .i32⟩
  | 32 => ⟨S17, .i32⟩
  | 33 => ⟨S1x17, .i32⟩
  | 34 => ⟨S128x17x2x96x96, .f32⟩
  | 35 => ⟨S128x17, .i32⟩
  | 36 => ⟨S128x17, .i32⟩
  | 37 => ⟨S128x17x1, .i32⟩
  | 38 => ⟨S128x17x1, .i32⟩
  | 39 => ⟨S128x17x1, .i32⟩
  | 40 => ⟨S128x17x1, .i32⟩
  | 41 => ⟨S128x17x4, .i32⟩
  | 42 => ⟨S128x17x2, .f32⟩
  | 43 => ⟨S128x17, .i32⟩
  | 44 => ⟨S128x17, .i32⟩
  | 45 => ⟨S128x17x1, .i32⟩
  | 46 => ⟨S128x17x1, .i32⟩
  | 47 => ⟨S128x17x1, .i32⟩
  | 48 => ⟨S128x17x1, .i32⟩
  | 49 => ⟨S128x17x4, .i32⟩
  | 50 => ⟨S128x17, .f32⟩
  | 51 => ⟨S128x17, .f32⟩
  | 52 => ⟨S128x17x1, .f32⟩
  | 53 => ⟨S128x17, .f32⟩
  | 54 => ⟨S128x17, .f32⟩
  | 55 => ⟨S_, .f32⟩
  | 56 => ⟨S128x17, .f32⟩
  | 57 => ⟨S128x17, .f32⟩
  | 58 => ⟨S128x17, .f32⟩
  | 59 => ⟨S128x17x1, .f32⟩
  | 60 => ⟨S128x17, .f32⟩
  | 61 => ⟨S128x17, .f32⟩
  | 62 => ⟨S_, .f32⟩
  | 63 => ⟨S128x17, .f32⟩
  | 64 => ⟨S128x17, .f32⟩
  | 65 => ⟨S128x17x1, .f32⟩
  | 66 => ⟨S128x17x1, .f32⟩
  | 67 => ⟨S128x17x1, .f32⟩
  | 68 => ⟨S128x17x3, .f32⟩
  | 69 => ⟨S128x51, .f32⟩
  | _ => ⟨S128x17x48x48, .f32⟩

abbrev hbmTy (i : Nat) : BufTy := match i / 128 with
  | 0 => hbmTy0_0 i
  | 1 => hbmTy0_1 i
  | _ => ⟨S128x17x48x48, .f32⟩

abbrev bufTy : (tb : Table) → Fin (tcTables nBuf tb) → BufTy
  | .hbm, ⟨i, _⟩ => hbmTy i
  | _, _ => ⟨S128x17x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_cst : Ref sig .tc := ⟨.hbm, 42, rfl⟩
abbrev main_call0_c : Ref sig .tc := ⟨.hbm, 43, rfl⟩
abbrev main_call0_v1_0 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_c_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_c_9 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_cst_12 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_cst_14 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_15 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_16 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_call5_v0 : Ref sig .tc := ⟨.hbm, 132, rfl⟩
abbrev main_call5_cst : Ref sig .tc := ⟨.hbm, 133, rfl⟩
abbrev main_call5_c : Ref sig .tc := ⟨.hbm, 134, rfl⟩
abbrev main_call5_v1_0 : Ref sig .tc := ⟨.hbm, 135, rfl⟩
abbrev main_v85 : Ref sig .tc := ⟨.hbm, 136, rfl⟩
abbrev main_c_17 : Ref sig .tc := ⟨.hbm, 137, rfl⟩
abbrev main_v86 : Ref sig .tc := ⟨.hbm, 138, rfl⟩
abbrev main_v87 : Ref sig .tc := ⟨.hbm, 139, rfl⟩
abbrev main_c_18 : Ref sig .tc := ⟨.hbm, 140, rfl⟩
abbrev main_c_19 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_call6_v3 : Ref sig .tc := ⟨.hbm, 145, rfl⟩
abbrev main_call6_v4 : Ref sig .tc := ⟨.hbm, 146, rfl⟩
abbrev main_v88 : Ref sig .tc := ⟨.hbm, 147, rfl⟩
abbrev main_c_20 : Ref sig .tc := ⟨.hbm, 148, rfl⟩
abbrev main_v89 : Ref sig .tc := ⟨.hbm, 149, rfl⟩
abbrev main_v90 : Ref sig .tc := ⟨.hbm, 150, rfl⟩
abbrev main_c_21 : Ref sig .tc := ⟨.hbm, 151, rfl⟩
abbrev main_c_22 : Ref sig .tc := ⟨.hbm, 152, rfl⟩
abbrev main_call7_v0 : Ref sig .tc := ⟨.hbm, 153, rfl⟩
abbrev main_call7_v1 : Ref sig .tc := ⟨.hbm, 154, rfl⟩
abbrev main_call7_v2 : Ref sig .tc := ⟨.hbm, 155, rfl⟩
abbrev main_call7_v3 : Ref sig .tc := ⟨.hbm, 156, rfl⟩
abbrev main_call7_v4 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_23 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_cst_24 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩

abbrev nD : Nat := 1
abbrev τ : Topo := Topo.v7x

variable {F : FTy → Type} [FloatOps F]
-- ==== Proof.RefLine.lean ====
module

public import proofs.«01_k».proof.Proof.Gen.ReferenceIdeal
public import Idealize.ShloMosaic.Lib.StableHlo.RunHlo
public import Idealize.ShloMosaic.Lib.StableHlo.RunRead
public import Idealize.ShloMosaic.Lib.Claim
public import Idealize.ShloMosaic.PureOps.Ideal

@[expose] public section

set_option maxRecDepth 16384

noncomputable section

namespace Cert.ReferenceIdeal.Line

open Idealize.ShloMosaic Idealize.SL.Sem Idealize.ShloMosaic.StableHlo
open Cert.ReferenceIdeal

/-- The reference's operations in order, read off its printed text. -/
def opsOf : { ops : List (HloOp τ sig (Elt Ideal)) // ∀ d, IsSeq (main (F := Ideal) d) ops } := by
  apply Subtype.mk
  · intro d
    unfold main main_part0 main_part1 main_part2 fn_argmax.body fn_clip.body fn_clip_0.body fn_argmax_1.body fn_clip_2.body
    simp only [bind_assoc, pure_bind]
    hlo_seq

/-- The reference's operations. -/
def ops : List (HloOp τ sig (Elt Ideal)) := opsOf.1

set_option maxHeartbeats 4000000 in
/-- The reference's run: every buffer ends at what the operations, taken in order, leave in it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_hlo _ _ opsOf.2 (by decide) (by decide) (by unfold opsOf; simp)
    (by intro _ h; unfold opsOf at h; (repeat (cases h with | head => rfl | tail _ h => ?_)); exact nomatch h) m ρ

/-- No operation writes the first argument. -/
theorem keep0 (V : Valuation τ sig (Elt Ideal)) : after ops V (Proc.devRef .tc main_arg0) = V (Proc.devRef .tc main_arg0) := by
  after_reads_simp

/-- No operation writes the second argument. -/
theorem keep1 (V : Valuation τ sig (Elt Ideal)) : after ops V (Proc.devRef .tc main_arg1) = V (Proc.devRef .tc main_arg1) := by
  after_reads_simp

/-- No operation writes the third argument. -/
theorem keep2 (V : Valuation τ sig (Elt Ideal)) : after ops V (Proc.devRef .tc main_arg2) = V (Proc.devRef .tc main_arg2) := by
  after_reads_simp

/-- No operation writes the fourth argument. -/
theorem keep3 (V : Valuation τ sig (Elt Ideal)) : after ops V (Proc.devRef .tc main_arg3) = V (Proc.devRef .tc main_arg3) := by
  after_reads_simp

end Cert.ReferenceIdeal.Line
-- ==== Proof.PreFacts.lean ====
module

public import proofs.«01_k».proof.Pre_below_infinity
public import Idealize.ShloMosaic.Lib.Decide

@[expose] public section

namespace Cert.Pre_below_infinity

open Idealize.ShloMosaic

/-- The shape facts the precondition's operations take. -/
theorem facts : Facts where
  bcast_S_S128x17x48x48 := by decide
  reducesTo_S128x17x48x48_S_d0_1_2_3 := by decide
  h_S_ := by decide
  bcast_S_S128x1x48x48 := by decide
  reducesTo_S128x1x48x48_S_d0_1_2_3 := by decide

end Cert.Pre_below_infinity
-- ==== Proof.Weights.lean ====
module

public import Idealize.ShloMosaic.PureOps.Ideal
public import Mathlib.Tactic.Ring
public import Mathlib.Tactic.Positivity
public import Mathlib.Data.EReal.Operations

/-! The interpolation weights of a doubling of 48 samples to 96, and sums against them. -/

@[expose] public section

noncomputable section

namespace Cert.Joint

/-- Four times the weight of source sample `i` in output sample `o`: the distance from `i` to the
    output's place among the sources, held inside the source range, taken from one. -/
def wz (i o : ℕ) : ℤ := max (4 - |max 0 (min 188 (2 * (o : ℤ) - 1)) - 4 * (i : ℤ)|) 0

/-- Four times the triangle weight before it is normalised: the place is not held inside the range. -/
def tz (i o : ℕ) : ℤ := max (4 - |(2 * (o : ℤ) - 1) - 4 * (i : ℤ)|) 0

/-- The interpolation weight as a real number. -/
def wt (i : Fin 48) (o : Fin 96) : ℝ := (wz i o : ℝ) / 4

/-- A weight is not negative. -/
theorem wt_nonneg (i : Fin 48) (o : Fin 96) : 0 ≤ wt i o := by
  unfold wt wz
  have : (0 : ℝ) ≤ ((max (4 - |max 0 (min 188 (2 * ((o : ℕ) : ℤ) - 1)) - 4 * ((i : ℕ) : ℤ)|) 0 : ℤ) : ℝ) := by
    exact_mod_cast le_max_right _ _
  positivity

/-- The triangle weights of one output add up to four quarters, or to three at the two edges. -/
theorem tz_sum (o : Fin 96) : (∑ i : Fin 48, tz i o) = if o.val = 0 ∨ o.val = 95 then 3 else 4 :=
  (by decide +kernel : ∀ o : Fin 96, (∑ i : Fin 48, tz i o) = if o.val = 0 ∨ o.val = 95 then 3 else 4) o

/-- Normalising the triangle weights gives the interpolation weights. -/
theorem tz_norm (i : Fin 48) (o : Fin 96) : 4 * tz i o = wz i o * ∑ k : Fin 48, tz k o :=
  (by decide +kernel : ∀ i : Fin 48, ∀ o : Fin 96, 4 * tz i o = wz i o * ∑ k : Fin 48, tz k o) i o

/-- The output row of a source row and a parity. -/
def row (p : Fin 2) (r : Fin 48) : Fin 96 := ⟨2 * r.val + p.val, by omega⟩

/-- The source row before, held at the first. -/
def up (r : Fin 48) : Fin 48 := ⟨r.val - 1, by omega⟩

/-- The source row after, held at the last. -/
def dn (r : Fin 48) : Fin 48 := ⟨min (r.val + 1) 47, by omega⟩

/-- The other source row an output row draws on. -/
def nb (p : Fin 2) (r : Fin 48) : Fin 48 := if p = 0 then up r else dn r

/-- Three quarters of an output row is its own source row and one quarter another. -/
theorem wz_row (p : Fin 2) (r h : Fin 48) :
    wz h (row p r) = 3 * (if h = r then 1 else 0) + (if h = nb p r then 1 else 0) :=
  (by decide +kernel : ∀ p : Fin 2, ∀ r h : Fin 48,
    wz h (row p r) = 3 * (if h = r then 1 else 0) + (if h = nb p r then 1 else 0)) p r h

/-- A sum against one output row's weights is three quarters of its own source row and a quarter of the
    other. -/
theorem tap (p : Fin 2) (r : Fin 48) (f : Fin 48 → EReal) :
    ∑ h, f h * ((wt h (row p r) : ℝ) : EReal)
      = ((3 / 4 : ℝ) : EReal) * f r + ((1 / 4 : ℝ) : EReal) * f (nb p r) := by
  have e : ∀ h, f h * ((wt h (row p r) : ℝ) : EReal)
      = (if h = r then ((3 / 4 : ℝ) : EReal) * f h else 0) + (if h = nb p r then ((1 / 4 : ℝ) : EReal) * f h else 0) := by
    intro h
    have hw : wt h (row p r) = (if h = r then 3 / 4 else 0) + (if h = nb p r then 1 / 4 else 0) := by
      unfold wt
      rw [wz_row]
      push_cast
      split_ifs <;> norm_num
    have hs : ∀ (q : Prop) [Decidable q] (c : ℝ), (if q then (c : EReal) * f h else 0) = ((if q then c else 0 : ℝ) : EReal) * f h := by
      intro q _ c
      split_ifs <;> simp
    rw [hw, hs, hs, mul_comm, EReal.coe_add]
    refine EReal.right_distrib_of_nonneg ?_ ?_ <;> exact EReal.coe_nonneg.2 (by split_ifs <;> norm_num)
  simp only [e, Finset.sum_add_distrib, Finset.sum_ite_eq', Finset.mem_univ, if_true]

/-- A map enlarged along both axes, over the extended reals. -/
def res (m : Fin 48 → Fin 48 → EReal) (y x : Fin 96) : EReal :=
  ∑ w, (∑ h, m h w * ((wt h y : ℝ) : EReal)) * ((wt w x : ℝ) : EReal)

/-- A finite sum of reals, as an extended real. -/
theorem coe_sum {ι : Type} [Fintype ι] (f : ι → ℝ) : ((∑ i, f i : ℝ) : EReal) = ∑ i, (f i : EReal) := by
  induction (Finset.univ : Finset ι) using Finset.cons_induction with
  | empty => simp
  | cons a s h ih => rw [Finset.sum_cons, Finset.sum_cons, EReal.coe_add, ih]

/-- A nonnegative real factor goes into an extended-real sum. -/
theorem sum_mul_real {ι : Type} [Fintype ι] (f : ι → EReal) (c : ℝ) (hc : 0 ≤ c) :
    (∑ i, f i) * (c : EReal) = ∑ i, f i * (c : EReal) := by
  induction (Finset.univ : Finset ι) using Finset.cons_induction with
  | empty => simp
  | cons a s h ih =>
    rw [Finset.sum_cons, Finset.sum_cons, ← ih]
    exact EReal.right_distrib_of_nonneg_of_ne_top (by exact_mod_cast hc) (EReal.coe_ne_top c) _ _

/-- One sum over both source axes against the product of the weights is the enlarged map. -/
theorem res_comb (m : Fin 48 → Fin 48 → EReal) (y x : Fin 96) :
    ∑ h, ∑ w, m h w * (((wt h y : ℝ) : EReal) * ((wt w x : ℝ) : EReal)) = res m y x := by
  unfold res
  rw [Finset.sum_comm]
  refine Finset.sum_congr rfl fun w _ => ?_
  rw [sum_mul_real _ _ (wt_nonneg w x)]
  exact Finset.sum_congr rfl fun h _ => (mul_assoc _ _ _).symm

/-- Columns first, then two source rows: the same enlarged map. -/
theorem res_row (m : Fin 48 → Fin 48 → EReal) (p : Fin 2) (r : Fin 48) (x : Fin 96) :
    res m (row p r) x
      = ((3 / 4 : ℝ) : EReal) * (∑ w, m r w * ((wt w x : ℝ) : EReal))
        + ((1 / 4 : ℝ) : EReal) * (∑ w, m (nb p r) w * ((wt w x : ℝ) : EReal)) := by
  unfold res
  rw [mul_comm, sum_mul_real _ _ (by norm_num), mul_comm ((1 / 4 : ℝ) : EReal), sum_mul_real _ _ (by norm_num), ← Finset.sum_add_distrib]
  refine Finset.sum_congr rfl fun w _ => ?_
  rw [tap p r fun h => m h w, EReal.right_distrib_of_nonneg_of_ne_top (EReal.coe_nonneg.2 (wt_nonneg w x)) (EReal.coe_ne_top _),
    mul_assoc, mul_assoc, mul_comm _ (m r w * _), mul_comm _ (m (nb p r) w * _)]

/-- A value that is not plus infinity, its difference from itself, and what is left of that, each against a weight,
    add up to the value against the weight. -/
theorem split_sum (v : EReal) (hv : v ≠ ⊤) (c : ℝ) (hc : 0 ≤ c) :
    v * (c : EReal) + ((v - v) * (c : EReal) + (v - v - (v - v)) * (c : EReal)) = v * (c : EReal) := by
  induction v with
  | top => exact absurd rfl hv
  | coe r => simp [← EReal.coe_sub]
  | bot =>
    rcases hc.eq_or_lt with rfl | h
    · simp
    · simp [EReal.bot_mul_coe_of_pos h]

/-- A positive real factor keeps the order of extended reals. -/
theorem mul_real_le (a b : EReal) (s : ℝ) (hs : 0 < s) : a * (s : EReal) ≤ b * (s : EReal) ↔ a ≤ b := by
  have e : ∀ c : EReal, c * (s : EReal) * ((s⁻¹ : ℝ) : EReal) = c := fun c => by
    rw [mul_assoc, ← EReal.coe_mul, mul_inv_cancel₀ hs.ne', EReal.coe_one, mul_one]
  constructor
  · intro h
    have := mul_le_mul_of_nonneg_right h (EReal.coe_nonneg.2 (inv_pos.2 hs).le)
    rwa [e, e] at this
  · exact fun h => mul_le_mul_of_nonneg_right h (EReal.coe_nonneg.2 hs.le)

end Cert.Joint
-- ==== Proof.Argmax.lean ====
module

public import Idealize.ShloMosaic.PureOps.Ideal.Laws
public import Idealize.ShloMosaic.PureOps.Reduce
public import proofs.«01_k».proof.Proof.Weights

/-! The first place of the greatest value on a 96 by 96 map, and the two ways it is found. -/

@[expose] public section

noncomputable section

open Idealize.ShloMosaic

namespace Cert.Joint

/-- The row-major number of a place. -/
def num (y x : Fin 96) : ℕ := 96 * y.val + x.val

/-- `(y, x)` holds the greatest value of `f`, and no place before it in row-major order does. -/
def First (f : Fin 96 → Fin 96 → EReal) (y x : Fin 96) : Prop :=
  ∀ y' x', f y' x' ≤ f y x ∧ (f y' x' = f y x → num y x ≤ num y' x')

/-- The number tells the place. -/
theorem num_inj {y x y' x' : Fin 96} (h : num y x = num y' x') : y = y' ∧ x = x' := by
  unfold num at h
  constructor <;> exact Fin.ext (by omega)

/-- There are 9216 numbers. -/
theorem num_lt (y x : Fin 96) : num y x < 9216 := by unfold num; omega

/-- Every map has a first greatest place. -/
theorem exists_first (f : Fin 96 → Fin 96 → EReal) : ∃ y x, First f y x := by
  obtain ⟨m, -, hm⟩ := Finset.exists_max_image (Finset.univ : Finset (Fin 96 × Fin 96))
    (fun q => f q.1 q.2) ⟨(0, 0), Finset.mem_univ _⟩
  obtain ⟨q, hq, hq'⟩ := Finset.exists_min_image
    (Finset.univ.filter fun q : Fin 96 × Fin 96 => f q.1 q.2 = f m.1 m.2) (fun q => num q.1 q.2)
    ⟨m, by simp⟩
  have e : f q.1 q.2 = f m.1 m.2 := (Finset.mem_filter.1 hq).2
  refine ⟨q.1, q.2, fun y' x' => ⟨?_, fun h => ?_⟩⟩
  · rw [e]; exact hm (y', x') (Finset.mem_univ _)
  · exact hq' (y', x') (by simp [h, e])

/-- It has only one. -/
theorem First.unique {f : Fin 96 → Fin 96 → EReal} {y x y' x' : Fin 96} (h : First f y x) (h' : First f y' x') :
    y = y' ∧ x = x' := by
  have e : f y x = f y' x' := le_antisymm (h' y x).1 (h y' x').1
  exact num_inj (le_antisymm ((h y' x').2 e.symm) ((h' y x).2 e))

/-- The row of the first greatest value. -/
def topY (f : Fin 96 → Fin 96 → EReal) : Fin 96 := (exists_first f).choose

/-- The column of the first greatest value. -/
def topX (f : Fin 96 → Fin 96 → EReal) : Fin 96 := (exists_first f).choose_spec.choose

/-- The row and column above are that place. -/
theorem first_top (f : Fin 96 → Fin 96 → EReal) : First f (topY f) (topX f) := (exists_first f).choose_spec.choose_spec

/-- A first greatest place is the one the row and column above give. -/
theorem First.eq_top {f : Fin 96 → Fin 96 → EReal} {y x : Fin 96} (h : First f y x) : topY f = y ∧ topX f = x :=
  (first_top f).unique h

/-- Two maps ordered alike have the same first greatest place. -/
theorem top_congr {f g : Fin 96 → Fin 96 → EReal} (h : ∀ y x y' x', f y x ≤ f y' x' ↔ g y x ≤ g y' x') :
    topY f = topY g ∧ topX f = topX g := by
  refine First.eq_top fun y x => ?_
  have hg := first_top g y x
  refine ⟨(h _ _ _ _).2 hg.1, fun e => hg.2 ?_⟩
  exact le_antisymm ((h _ _ _ _).1 e.le) ((h _ _ _ _).1 e.ge)

/-- The greatest of a nonempty set of values, folded from below everything. -/
theorem fold_max_eq {ι : Type} (s : Finset ι) (f : ι → EReal) (i : ι) (hi : i ∈ s) (h : ∀ k ∈ s, f k ≤ f i) :
    s.fold max ⊥ f = f i := by
  refine le_antisymm ?_ ?_
  · exact (Finset.fold_max_le _).2 ⟨bot_le, h⟩
  · exact (Finset.le_fold_max _).2 (Or.inr ⟨i, hi, le_rfl⟩)

/-- A small number as a word, read signed, is itself. -/
theorem toInt_ofNat_small (n : ℕ) (h : n ≤ 9216) : (BitVec.ofNat 32 n).toInt = (n : ℤ) := by
  rw [BitVec.toInt_ofNat']
  simp [Int.bmod]
  omega

/-- The signed lesser of two words, read as integers. -/
theorem toInt_minsi' (a b : BitVec 32) : (IntOp.minsi a b).toInt = min a.toInt b.toInt := by
  show (if a.slt b then a else b).toInt = _
  by_cases h : a.toInt < b.toInt
  · rw [show a.slt b = true from decide_eq_true h, if_pos rfl, min_eq_left h.le]
  · rw [show a.slt b = false from decide_eq_false h, if_neg Bool.false_ne_true, min_eq_right (not_lt.mp h)]

/-- The signed least of a set of words, read as integers. -/
theorem toInt_fold_minsi {ι : Type} (s : Finset ι) (a : BitVec 32) (w : ι → BitVec 32) :
    (s.fold IntOp.minsi a w).toInt = s.fold min a.toInt (fun i => (w i).toInt) := by
  classical
  induction s using Finset.induction_on with
  | empty => rfl
  | insert b s hb ih => rw [Finset.fold_insert hb, Finset.fold_insert hb, toInt_minsi', ih]

/-- The least number among the places that hold the greatest value, other places counting as 9216, is the
    number of the first place that holds it. -/
theorem fold_first {ι : Type} (s : Finset ι) (f : ι → EReal) (n : ι → ℕ) (i : ι) (hi : i ∈ s)
    (hn : ∀ k ∈ s, n k < 9216) (h : ∀ k ∈ s, f k ≤ f i ∧ (f k = f i → n i ≤ n k)) (w : ι → BitVec 32)
    (hw : ∀ k ∈ s, w k = if f k = s.fold max ⊥ f then BitVec.ofNat 32 (n k) else 9216#32) :
    s.fold IntOp.minsi 2147483647#32 w = BitVec.ofNat 32 (n i) := by
  rw [fold_max_eq s f i hi fun k hk => (h k hk).1] at hw
  apply BitVec.eq_of_toInt_eq
  rw [toInt_fold_minsi, toInt_ofNat_small _ (hn i hi).le]
  have hwi : ∀ k ∈ s, (n i : ℤ) ≤ (w k).toInt := by
    intro k hk
    rw [hw k hk]
    split_ifs with e
    · rw [toInt_ofNat_small _ (hn k hk).le]; exact_mod_cast (h k hk).2 e
    · rw [toInt_ofNat_small 9216 le_rfl]; exact_mod_cast (hn i hi).le
  refine le_antisymm ?_ ?_
  · refine (Finset.fold_min_le _).2 (Or.inr ⟨i, hi, ?_⟩)
    rw [hw i hi, if_pos rfl, toInt_ofNat_small _ (hn i hi).le]
  · refine (Finset.le_fold_min _).2 ⟨?_, hwi⟩
    have := hn i hi
    have e : (2147483647#32).toInt = 2147483647 := by decide
    rw [e]; omega

/-- One step of the reduction that keeps the greater value and, on equal values, the lesser index. -/
def step (a b : EReal × BitVec 32) : EReal × BitVec 32 :=
  if b.1 < a.1 then a else if a.1 = b.1 then (b.1, if a.2.toInt < b.2.toInt then a.2 else b.2) else b

/-- What the reduction has kept is one of what it was given, and nothing given beats it. -/
theorem foldl_step (l : List (EReal × BitVec 32)) (a : EReal × BitVec 32) :
    (l.foldl step a = a ∨ l.foldl step a ∈ l) ∧
      ∀ q, q = a ∨ q ∈ l → q.1 ≤ (l.foldl step a).1 ∧
        (q.1 = (l.foldl step a).1 → (l.foldl step a).2.toInt ≤ q.2.toInt) := by
  induction l generalizing a with
  | nil => exact ⟨Or.inl rfl, fun q hq => by
      rcases hq with rfl | hq
      · exact ⟨le_rfl, fun _ => le_rfl⟩
      · cases hq⟩
  | cons b l ih =>
    obtain ⟨h1, h2⟩ := ih (step a b)
    have hs : step a b = a ∨ step a b = b := by
      obtain ⟨a1, a2⟩ := a
      obtain ⟨b1, b2⟩ := b
      unfold step
      dsimp only
      split_ifs with h h' h''
      · exact Or.inl rfl
      · exact Or.inl (by rw [h'])
      · exact Or.inr rfl
      · exact Or.inr rfl
    have ha : a.1 ≤ (step a b).1 ∧ (a.1 = (step a b).1 → (step a b).2.toInt ≤ a.2.toInt) := by
      unfold step
      split_ifs with h h' h''
      · exact ⟨le_rfl, fun _ => le_rfl⟩
      · exact ⟨h'.le, fun _ => le_rfl⟩
      · exact ⟨h'.le, fun _ => not_lt.1 h''⟩
      · exact ⟨not_lt.1 h, fun e => absurd e h'⟩
    have hb : b.1 ≤ (step a b).1 ∧ (b.1 = (step a b).1 → (step a b).2.toInt ≤ b.2.toInt) := by
      unfold step
      split_ifs with h h' h''
      · exact ⟨h.le, fun e => absurd e h.ne⟩
      · exact ⟨le_rfl, fun _ => h''.le⟩
      · exact ⟨le_rfl, fun _ => le_rfl⟩
      · exact ⟨le_rfl, fun _ => le_rfl⟩
    have h3 := h2 (step a b) (Or.inl rfl)
    have tr : ∀ q : EReal × BitVec 32, q.1 ≤ (step a b).1 ∧ (q.1 = (step a b).1 → (step a b).2.toInt ≤ q.2.toInt) →
        q.1 ≤ (l.foldl step (step a b)).1 ∧
          (q.1 = (l.foldl step (step a b)).1 → (l.foldl step (step a b)).2.toInt ≤ q.2.toInt) := by
      intro q hq
      refine ⟨hq.1.trans h3.1, fun e => ?_⟩
      have e1 : (step a b).1 = (l.foldl step (step a b)).1 := le_antisymm h3.1 (e ▸ hq.1)
      exact (h3.2 e1).trans (hq.2 (e.trans e1.symm))
    refine ⟨?_, ?_⟩
    · rw [List.foldl_cons]
      rcases h1 with h1 | h1
      · rcases hs with hs | hs
        · exact Or.inl (h1.trans hs)
        · exact Or.inr (by rw [h1, hs]; exact List.mem_cons_self)
      · exact Or.inr (List.mem_cons_of_mem _ h1)
    · intro q hq
      rw [List.foldl_cons]
      rcases hq with rfl | hq
      · exact tr _ ha
      · rcases List.mem_cons.1 hq with rfl | hq
        · exact tr _ hb
        · exact h2 q (Or.inr hq)

/-- Over pairs, among them a best one, the reduction from minus infinity keeps an index equal to the best one's. If
    the best value is minus infinity too, the start index must be the best one's. -/
theorem foldl_step_first (l : List (EReal × BitVec 32)) (q : EReal × BitVec 32) (hq : q ∈ l)
    (h : ∀ k ∈ l, k.1 ≤ q.1 ∧ (k.1 = q.1 → q.2.toInt ≤ k.2.toInt)) (z : BitVec 32) (hz : q.1 = ⊥ → z = q.2) :
    (l.foldl step (⊥, z)).2 = q.2 := by
  obtain ⟨h1, h2⟩ := foldl_step l (⊥, z)
  have hq' := h2 q (Or.inr hq)
  rcases h1 with h1 | h1
  · rw [h1] at hq' ⊢
    exact hz (le_bot_iff.1 hq'.1)
  · have hm' := h _ h1
    have e := le_antisymm hm'.1 hq'.1
    exact BitVec.eq_of_toInt_eq (le_antisymm (hq'.2 e.symm) (hm'.2 e))

end Cert.Joint
-- ==== Proof.Scalars.lean ====
module

public import Idealize.ShloMosaic.PureOps.Ideal.Laws
public import Idealize.ShloMosaic.Lib.Pointwise
public import Mathlib.Tactic.Linarith
public import proofs.«01_k».proof.Proof.Argmax

/-! The literals of the two programs as numbers, small whole numbers as words, and the values the decoding is
    made of. -/

@[expose] public section

noncomputable section

open Idealize.ShloMosaic

namespace Cert.Joint

/-- A quarter. -/
theorem c_quarter : Ideal.ofBits .f32 0x3E800000#32 = ((1 / 4 : ℝ) : EReal) := by
  simp [Ideal.ofBits, Ideal.ieee, -EReal.coe_mul]; norm_num
/-- A half. -/
theorem c_half : Ideal.ofBits .f32 0x3F000000#32 = ((1 / 2 : ℝ) : EReal) := by
  simp [Ideal.ofBits, Ideal.ieee, -EReal.coe_mul]; norm_num
/-- Three quarters. -/
theorem c_three_quarters : Ideal.ofBits .f32 0x3F400000#32 = ((3 / 4 : ℝ) : EReal) := by
  simp [Ideal.ofBits, Ideal.ieee, -EReal.coe_mul]; norm_num
/-- One. -/
theorem c_one : Ideal.ofBits .f32 0x3F800000#32 = ((1 : ℝ) : EReal) := by
  simp [Ideal.ofBits, Ideal.ieee, -EReal.coe_mul]; norm_num
/-- Zero. -/
theorem c_zero : Ideal.ofBits .f32 0x00000000#32 = ((0 : ℝ) : EReal) := by
  simp [Ideal.ofBits, Ideal.ieee]
/-- Forty-seven. -/
theorem c_47 : Ideal.ofBits .f32 0x423C0000#32 = ((47 : ℝ) : EReal) := by
  simp [Ideal.ofBits, Ideal.ieee, -EReal.coe_mul]; norm_num
/-- Ninety-five. -/
theorem c_95 : Ideal.ofBits .f32 0x42BE0000#32 = ((95 : ℝ) : EReal) := by
  simp [Ideal.ofBits, Ideal.ieee, -EReal.coe_mul]; norm_num
/-- Ninety-six. -/
theorem c_96 : Ideal.ofBits .f32 0x42C00000#32 = ((96 : ℝ) : EReal) := by
  simp [Ideal.ofBits, Ideal.ieee, -EReal.coe_mul]; norm_num
/-- Minus infinity. -/
theorem c_bot : Ideal.ofBits .f32 0xFF800000#32 = ⊥ := by
  simp [Ideal.ofBits, Ideal.ieee]

/-- The small number added to a squared distance is a positive real. -/
theorem c_eps : ∃ e : ℝ, 0 < e ∧ Ideal.ofBits .f32 0x3089705F#32 = (e : EReal) := by
  refine ⟨_, ?_, by simp [Ideal.ofBits, Ideal.ieee, -EReal.coe_mul]; rfl⟩
  norm_num

/-- The number the divided heat map is divided by once more is a positive real. -/
theorem c_scale : ∃ e : ℝ, 0 < e ∧ Ideal.ofBits .f32 0x3FE66666#32 = (e : EReal) := by
  refine ⟨_, ?_, by simp [Ideal.ofBits, Ideal.ieee, -EReal.coe_mul]; rfl⟩
  norm_num

/-- A small whole number, as a word, converts to itself. -/
theorem sitofp_small (n : ℕ) (h : n ≤ 9216) :
    FloatOps.sitofp (F := Ideal) FTy.f32 (BitVec.ofNat 32 n) = (((n : ℝ)) : EReal) := by
  show ((((BitVec.ofNat 32 n).toInt : ℤ) : ℝ) : EReal) = _
  rw [toInt_ofNat_small n h]
  norm_cast

/-- The greater of two reals, as an extended real. -/
theorem coe_max (a b : ℝ) : ((max a b : ℝ) : EReal) = max (a : EReal) (b : EReal) :=
  EReal.coe_strictMono.monotone.map_max

/-- The lesser of two reals, as an extended real. -/
theorem coe_min (a b : ℝ) : ((min a b : ℝ) : EReal) = min (a : EReal) (b : EReal) :=
  EReal.coe_strictMono.monotone.map_min

/-- The absolute value of a real. -/
theorem absf_coe (r : ℝ) : FloatOps.absf (F := Ideal) (φ := FTy.f32) ((r : ℝ) : EReal) = ((|r| : ℝ) : EReal) := by
  show max (r : EReal) (-(r : EReal)) = _
  rw [← EReal.coe_neg, ← coe_max]; rfl

/-- The weight as the distance from a place held in the source range. -/
theorem wt_eq (i : Fin 48) (o : Fin 96) :
    max (1 - |(i.val : ℝ) - min 47 (max 0 (1 / 2 * (o.val : ℝ) - 1 / 4))|) 0 = wt i o := by
  unfold wt wz
  push_cast
  have e : min 47 (max 0 (1 / 2 * (o.val : ℝ) - 1 / 4)) = max 0 (min 188 (2 * (o.val : ℝ) - 1)) / 4 := by
    have hp : (0 : ℝ) ≤ 4 := by norm_num
    rw [← max_div_div_right hp, ← min_div_div_right hp]
    have h1 : (2 * (o.val : ℝ) - 1) / 4 = 1 / 2 * (o.val : ℝ) - 1 / 4 := by ring
    rw [h1, show (188 : ℝ) / 4 = 47 by norm_num, zero_div]
    rw [max_min_distrib_left, max_eq_right (by norm_num : (0 : ℝ) ≤ 47)]
  rw [e]
  have hp : (0 : ℝ) ≤ 4 := by norm_num
  generalize max 0 (min 188 (2 * (o.val : ℝ) - 1)) = P
  rw [← max_div_div_right hp (4 - |P - 4 * (i.val : ℝ)|), zero_div, sub_div, show (4 : ℝ) / 4 = 1 by norm_num]
  have h4 : |P - 4 * (i.val : ℝ)| / 4 = |(i.val : ℝ) - P / 4| := by
    rw [abs_sub_comm]
    nth_rw 2 [show (4 : ℝ) = |4| by norm_num]
    rw [← abs_div]
    congr 1
    ring
  rw [h4]

/-- The same on extended reals, as a program computes it. -/
theorem wt_prog (i : Fin 48) (o : Fin 96) :
    max (1 - FloatOps.absf (F := Ideal) (φ := FTy.f32) (FloatOps.sitofp (F := Ideal) FTy.f32 (BitVec.ofNat 32 i.val)
      - min (Ideal.ofBits .f32 0x423C0000#32) (max 0 (Ideal.ofBits .f32 0x3F000000#32
        * FloatOps.sitofp (F := Ideal) FTy.f32 (BitVec.ofNat 32 o.val) - Ideal.ofBits .f32 0x3E800000#32)))) 0
      = ((wt i o : ℝ) : EReal) := by
  rw [sitofp_small _ (by omega), sitofp_small _ (by omega), c_47, c_half, c_quarter, ← wt_eq]
  rw [← EReal.coe_mul, ← EReal.coe_sub, ← EReal.coe_zero, ← coe_max, ← coe_min, ← EReal.coe_sub, absf_coe,
    ← EReal.coe_one, ← EReal.coe_sub, ← coe_max]

/-! ### The decoding -/

/-- The number added to a squared distance. -/
def eps : EReal := Ideal.ofBits .f32 0x3089705F#32

/-- The row of the centre: of the first greatest place of the enlarged centre map. -/
def cy (c : Fin 48 → Fin 48 → EReal) : Fin 96 := topY (res c)
/-- The column of the centre. -/
def cx (c : Fin 48 → Fin 48 → EReal) : Fin 96 := topX (res c)

/-- A regressed coordinate: the centre's, moved by the enlarged offset map at the centre and a half, held
    inside the map. -/
def reg (c : Fin 48 → Fin 48 → EReal) (v : Fin 96) (r : Fin 48 → Fin 48 → EReal) : EReal :=
  min ((95 : ℝ) : EReal) (max 0 (((v.val : ℝ) : EReal) + res r (cy c) (cx c) + ((1 / 2 : ℝ) : EReal)))

/-- The squared distance of a place to a regressed place, and the small number. -/
def dist (gy gx : EReal) (y x : Fin 96) : EReal :=
  (((y.val : ℝ) : EReal) - gy) * (((y.val : ℝ) : EReal) - gy) + eps
    + (((x.val : ℝ) : EReal) - gx) * (((x.val : ℝ) : EReal) - gx)

/-- A joint's enlarged heat map, weakened with the distance to the regressed place. -/
def near (m : Fin 48 → Fin 48 → EReal) (gy gx : EReal) (y x : Fin 96) : EReal :=
  res m y x * Ideal.rsqrt (dist gy gx y x)

/-- The row of a joint. -/
def jy (m c ry rx : Fin 48 → Fin 48 → EReal) : Fin 96 := topY (near m (reg c (cy c) ry) (reg c (cx c) rx))
/-- The column of a joint. -/
def jx (m c ry rx : Fin 48 → Fin 48 → EReal) : Fin 96 := topX (near m (reg c (cy c) ry) (reg c (cx c) rx))

/-- A joint's coordinate in the unit square. -/
def coord (v y x : Fin 96) (o : Fin 48 → Fin 48 → EReal) : EReal :=
  Ideal.div (((v.val : ℝ) : EReal) + res o y x) ((96 : ℝ) : EReal)

/-- A regressed coordinate is a real number. -/
theorem reg_real (c : Fin 48 → Fin 48 → EReal) (v : Fin 96) (r : Fin 48 → Fin 48 → EReal) :
    ∃ g : ℝ, reg c v r = (g : EReal) := by
  have h0 : (0 : EReal) ≤ reg c v r := le_min (by norm_num) (le_max_left _ _)
  have h1 : reg c v r ≤ ((95 : ℝ) : EReal) := min_le_left _ _
  refine ⟨(reg c v r).toReal, (EReal.coe_toReal ?_ ?_).symm⟩
  · exact ne_top_of_le_ne_top (EReal.coe_ne_top _) h1
  · exact ne_bot_of_le_ne_bot (by simp) h0

/-- The squared distance, with the small number, is a positive real. -/
theorem dist_real (gy gx : ℝ) (y x : Fin 96) : ∃ d : ℝ, 0 < d ∧ dist gy gx y x = (d : EReal) := by
  obtain ⟨e, he, hc⟩ := c_eps
  refine ⟨((y.val : ℝ) - gy) * ((y.val : ℝ) - gy) + e + ((x.val : ℝ) - gx) * ((x.val : ℝ) - gx), ?_, ?_⟩
  · have := mul_self_nonneg ((y.val : ℝ) - gy)
    have := mul_self_nonneg ((x.val : ℝ) - gx)
    linarith
  · unfold dist eps
    rw [hc]
    simp only [EReal.coe_add, EReal.coe_mul, EReal.coe_sub]

end Cert.Joint
-- ==== Proof.KPoint.lean ====
module

public import Idealize.ShloMosaic.Lib.Pointwise
public import proofs.«01_k».proof.Proof.Gen.KernelIdeal.Skeleton
public import proofs.«01_k».proof.Proof.Scalars

/-! What the kernel's body computes, read at an index. -/

@[expose] public section

set_option maxRecDepth 16384

noncomputable section

open Idealize.ShloMosaic Idealize.ShloMosaic.TcCoe Idealize.SL.Sem
open Cert.KernelIdeal Cert.KernelIdeal.Gen Cert.Joint

namespace Cert.KernelIdeal.Point

/-! ### Words -/

/-- The kernel's floor division of a place's number by 96 gives its row. -/
theorem row_word (y x : Fin 96) : (fun W : BitVec 32 => Scalar.select
      (IntOp.andi
        (IntOp.cmpi CmpIPredicate.ne
          (IntOp.subi (BitVec.setWidth 32 (IntOp.cmpi CmpIPredicate.sgt W 0#32))
            (BitVec.setWidth 32 (IntOp.cmpi CmpIPredicate.slt W 0#32)))
          (Scalar.subi (Scalar.extui (Scalar.cmpi CmpIPredicate.sgt 96#32 0#32))
            (Scalar.extui (Scalar.cmpi CmpIPredicate.slt 96#32 0#32))))
        (IntOp.cmpi CmpIPredicate.ne (IntOp.remsi ArithUnit.vector W 96#32) 0#32))
      (IntOp.subi (IntOp.divsi ArithUnit.vector W 96#32) 1#32)
      (IntOp.divsi ArithUnit.vector W 96#32)) (BitVec.ofNat 32 (num y x)) = BitVec.ofNat 32 y.val :=
  (by decide +kernel : ∀ y x : Fin 96, (fun W : BitVec 32 => Scalar.select
      (IntOp.andi
        (IntOp.cmpi CmpIPredicate.ne
          (IntOp.subi (BitVec.setWidth 32 (IntOp.cmpi CmpIPredicate.sgt W 0#32))
            (BitVec.setWidth 32 (IntOp.cmpi CmpIPredicate.slt W 0#32)))
          (Scalar.subi (Scalar.extui (Scalar.cmpi CmpIPredicate.sgt 96#32 0#32))
            (Scalar.extui (Scalar.cmpi CmpIPredicate.slt 96#32 0#32))))
        (IntOp.cmpi CmpIPredicate.ne (IntOp.remsi ArithUnit.vector W 96#32) 0#32))
      (IntOp.subi (IntOp.divsi ArithUnit.vector W 96#32) 1#32)
      (IntOp.divsi ArithUnit.vector W 96#32)) (BitVec.ofNat 32 (num y x)) = BitVec.ofNat 32 y.val) y x

/-- What is left over is its column. -/
theorem col_word (y x : Fin 96) :
    IntOp.subi (BitVec.ofNat 32 (num y x)) (IntOp.muli (BitVec.ofNat 32 y.val) 96#32) = BitVec.ofNat 32 x.val :=
  (by decide +kernel : ∀ y x : Fin 96,
    IntOp.subi (BitVec.ofNat 32 (num y x)) (IntOp.muli (BitVec.ofNat 32 y.val) 96#32) = BitVec.ofNat 32 x.val) y x

/-- The row of a place stored by parity. -/
theorem pay10_at (p : Fin 2) (r : Fin 48) (q : Fin 96) :
    Gen.k0_pay10 (ix3 p r q) = BitVec.ofNat 32 (row p r).val := by
  pointwise [Gen.k0_pay10]
  exact (by decide +kernel : ∀ (p : Fin 2) (r : Fin 48),
    IntOp.addi (IntOp.muli (BitVec.ofNat 32 r.val) 2#32) (BitVec.ofNat 32 p.val) = BitVec.ofNat 32 (row p r).val) p r

/-- The row-major number of a place stored by parity. -/
theorem pay11_at (p : Fin 2) (r : Fin 48) (q : Fin 96) :
    Gen.k0_pay11 (ix3 p r q) = BitVec.ofNat 32 (num (row p r) q) := by
  pointwise [Gen.k0_pay11, Gen.k0_pay10]
  exact (by decide +kernel : ∀ (p : Fin 2) (r : Fin 48) (q : Fin 96),
    IntOp.addi (IntOp.muli (IntOp.addi (IntOp.muli (BitVec.ofNat 32 r.val) 2#32) (BitVec.ofNat 32 p.val)) 96#32)
      (BitVec.ofNat 32 q.val) = BitVec.ofNat 32 (num (row p r) q)) p r q

/-! ### The enlarged maps -/

section maps

variable (C : FVec Ideal S48x96 .f32) (hC : ∀ (i : Fin 48) (o : Fin 96), C (ix2 i o) = ((wt i o : ℝ) : EReal))
  (v1 : FVec Ideal S4x17x48x48 .f32) (v2 : FVec Ideal S4x1x48x48 .f32) (G : Fin 4 → Fin 18 → Fin 48 → Fin 48 → EReal)
  (hG : ∀ (b : Fin 4) (n : Fin 18) (h w : Fin 48), G b n h w ≠ ⊤)
  (h1 : ∀ (b : Fin 4) (n : Fin 17) (h w : Fin 48), v1 (ix4 b n h w) = G b n.succ h w)
  (h2 : ∀ (b : Fin 4) (h w : Fin 48), v2 (ix4 b 0 h w) = G b 0 h w)

include hC hG hG h1 h2

/-- The columns of the stacked maps enlarged: the three parts a value is split into add up to it. -/
theorem pay4_at (b : Fin 4) (j : Fin 18) (r : Fin 48) (x : Fin 96) :
    Gen.k0_pay4 (F := Ideal) C v1 v2 (ix4 b j r x) = ∑ w, G b j r w * ((wt w x : ℝ) : EReal) := by
  have hs : ∀ w : Fin 48, (if h : j.val < 1 then v2 (ix4 b ⟨j.val, h⟩ r w) else v1 (ix4 b ⟨j.val - 1, by omega⟩ r w))
      = G b j r w := by
    intro w
    by_cases h : j.val < 1
    · obtain rfl : j = 0 := Fin.ext (by simpa using h)
      exact h2 b r w
    · rw [dif_neg h, h1]
      congr 1
      exact Fin.ext (by simp; omega)
  pointwise [Gen.k0_pay4]
  simp only [hs, hC]
  simp only [← Finset.sum_add_distrib]
  exact Finset.sum_congr rfl fun w _ => split_sum _ (hG b j r w) _ (wt_nonneg w x)

/-- The stacked maps enlarged, rows stored by parity. -/
theorem pay8_at (b : Fin 4) (j : Fin 18) (p : Fin 2) (r : Fin 48) (x : Fin 96) :
    Gen.k0_pay8 (F := Ideal) (Gen.k0_pay5 C v1 v2) (Gen.k0_pay6 C v1 v2) (Gen.k0_pay7 C v1 v2)
        (Scalar.ofBits .f32 0x3E800000#32) (ix5 b j p r x)
      = res (fun h w => G b j h w) (row p r) x := by
  rw [res_row]
  pointwise [Gen.k0_pay8, Gen.k0_pay5, Gen.k0_pay6, Gen.k0_pay7]
  simp only [pay4_at C hC v1 v2 G hG h1 h2]
  rw [c_three_quarters]
  have hq : Scalar.ofBits (F := Ideal) .f32 0x3E800000#32 = ((1 / 4 : ℝ) : EReal) := c_quarter
  have hq' := c_quarter
  simp only [hq, hq']
  have e : ∀ i i' : Fin 48, i = i' → (∑ w, G b j i w * ((wt w x : ℝ) : EReal)) = ∑ w, G b j i' w * ((wt w x : ℝ) : EReal) := fun i i' h => by rw [h]
  by_cases hp : p.val < 1
  · obtain rfl : p = 0 := Fin.ext (by simpa using hp)
    by_cases hr : r.val < 1
    · simp only [dif_pos hp, dif_pos hr]
      rw [e (nb 0 r) r (Fin.ext (by simp [nb, up]; omega))]
    · simp only [dif_pos hp, dif_neg hr]
      rfl
  · obtain rfl : p = 1 := Fin.ext (by simp; omega)
    by_cases hr : r.val < 47
    · simp only [dif_neg hp, dif_pos hr]
      rw [e (nb 1 r) ⟨1 + r.val, by omega⟩ (Fin.ext (by simp [nb, dn]; omega))]
    · simp only [dif_neg hp, dif_neg hr]
      rw [e (nb 1 r) ⟨47 + (r.val - 47), by omega⟩ (Fin.ext (by simp [nb, dn]; omega))]

/-- A joint's enlarged heat map, rows stored by parity. -/
theorem pay9_at (b : Fin 4) (n : Fin 17) (p : Fin 2) (r : Fin 48) (x : Fin 96) :
    Gen.k0_pay9 (F := Ideal) (Gen.k0_pay5 C v1 v2) (Gen.k0_pay6 C v1 v2) (Gen.k0_pay7 C v1 v2)
        (Scalar.ofBits .f32 0x3E800000#32) (ix5 b n p r x)
      = res (fun h w => G b n.succ h w) (row p r) x := by
  rw [← pay8_at C hC v1 v2 G hG h1 h2]
  pointwise [Gen.k0_pay9]
  congr 2
  exact Fin.ext (by simp; omega)

end maps

end Cert.KernelIdeal.Point
-- ==== Proof.KPoint2.lean ====
module

public import proofs.«01_k».proof.Proof.KPoint

/-! The kernel's two searches for a first greatest place, read at an index. -/

@[expose] public section

set_option maxRecDepth 16384

noncomputable section

open Idealize.ShloMosaic Idealize.ShloMosaic.TcCoe Idealize.SL.Sem
open Cert.KernelIdeal Cert.KernelIdeal.Gen Cert.Joint

namespace Cert.KernelIdeal.Point

/-- Every row is an even or an odd one of a source row. -/
theorem exists_row (y : Fin 96) : ∃ p r, row p r = y :=
  ⟨⟨y.val % 2, by omega⟩, ⟨y.val / 2, by omega⟩, Fin.ext (by simp [row]; omega)⟩

/-- The entries reduced into one picture are the picture's. -/
theorem drop_S4 (i : S4x2x48x96.Idx) (b : Fin 4) : reduces_S4x2x48x96_S4.drop i = ix1 b ↔ (i 0 : Fin 4) = b := by
  have h := reduces_S4x2x48x96_S4.drop_apply_val_of_eq i 0 0
  constructor
  · intro e
    rw [e] at h
    exact Fin.ext h.symm
  · intro e
    funext a
    obtain rfl : a = 0 := Subsingleton.elim _ _
    exact Fin.ext (h.trans (congrArg Fin.val e))

/-- The centre search gives the number of the first greatest place of the first stacked map. -/
theorem pay12_at (v26 v31 v33 : FVec Ideal S4x18x48x96 .f32) (c : Ideal .f32) (b : Fin 4) (f : Fin 96 → Fin 96 → EReal)
    (hf : ∀ p r x, Gen.k0_pay8 (F := Ideal) v26 v31 v33 c (ix5 b 0 p r x) = f (row p r) x) :
    Gen.k0_pay12 (F := Ideal) v26 v31 v33 c (ix1 b) = BitVec.ofNat 32 (num (topY f) (topX f)) := by
  obtain ⟨p, r, hpr⟩ := exists_row (topY f)
  have ht := first_top f
  have key := fold_first (Finset.univ.filter fun i : S4x2x48x96.Idx => reduces_S4x2x48x96_S4.drop i = ix1 b)
    (fun i => Gen.k0_pay8 (F := Ideal) v26 v31 v33 c (ix5 b 0 (i 1) (i 2) (i 3)))
    (fun i => num (row (i 1) (i 2)) (i 3)) (ix4 b p r (topX f))
    (by rw [Finset.mem_filter]; exact ⟨Finset.mem_univ _, (drop_S4 _ _).2 rfl⟩)
    (fun _ _ => num_lt _ _)
    (fun k _ => by
      have h1 := hf (k 1) (k 2) (k 3)
      have h2 := hf p r (topX f)
      have h3 := ht (row (k 1) (k 2)) (k 3)
      rw [← hpr] at h3
      refine ⟨?_, fun e => ?_⟩
      · exact (h1.trans_le h3.1).trans_eq h2.symm
      · exact h3.2 (h1.symm.trans (e.trans h2)))
  rw [hpr.symm]
  pointwise [Gen.k0_pay12]
  refine key _ fun k hk => ?_
  have hk0 : (k 0 : Fin 4) = b := (drop_S4 k b).1 (Finset.mem_filter.1 hk).2
  have hin : ∀ b' : Fin 4, b' = b → Finset.fold max (Ideal.ofBits FTy.f32 4286578688#32)
        (fun x : S4x2x48x96.Idx => Gen.k0_pay8 (F := Ideal) v26 v31 v33 c (ix5 (x 0) 0 (x 1) (x 2) (x 3)))
        (Finset.univ.filter fun i => reduces_S4x2x48x96_S4.drop i = ix1 b')
      = Finset.fold max ⊥ (fun i : S4x2x48x96.Idx => Gen.k0_pay8 (F := Ideal) v26 v31 v33 c (ix5 b 0 (i 1) (i 2) (i 3)))
        (Finset.univ.filter fun i => reduces_S4x2x48x96_S4.drop i = ix1 b) := by
    rintro b' rfl
    rw [c_bot]
    refine Finset.fold_congr fun i hi => ?_
    rw [show (i 0 : Fin 4) = b' from (drop_S4 i b').1 (Finset.mem_filter.1 hi).2]
  dsimp only
  refine Eq.trans ?_ (congrArg (fun e => if _ = _ then e else 9216#32) (pay11_at (k 1) (k 2) (k 3)))
  refine ite_congr ?_ (fun _ => rfl) (fun _ => rfl)
  refine congrArg₂ (· = ·) ?_ (hin (k 0) hk0)
  exact congrArg (fun e => Gen.k0_pay8 (F := Ideal) v26 v31 v33 c (ix5 e 0 (k 1) (k 2) (k 3))) hk0

/-- A joint search gives the number of the first greatest place of its map. -/
theorem pay24_at (v : FVec Ideal S4x17x2x48x96 .f32) (t : FVec Ideal S4x17x2x48x96 .f32) (b : Fin 4) (n : Fin 17)
    (f : Fin 96 → Fin 96 → EReal) (hf : ∀ p r x, v (ix5 b n p r x) = f (row p r) x)
    (ht : ∀ p r x, t (ix5 b n p r x) = f (topY f) (topX f)) :
    Gen.k0_pay24 (F := Ideal) Gen.k0_pay11 v t (ix2 b n) = BitVec.ofNat 32 (num (topY f) (topX f)) := by
  obtain ⟨p, r, hpr⟩ := exists_row (topY f)
  have hF := first_top f
  have key := fold_first (Finset.univ : Finset (Fin 2 × Fin 48 × Fin 96)) (fun i => f (row i.1 i.2.1) i.2.2)
    (fun i => num (row i.1 i.2.1) i.2.2) (p, r, topX f) (Finset.mem_univ _) (fun _ _ => num_lt _ _)
    (fun k _ => by
      have h3 := hF (row k.1 k.2.1) k.2.2
      rw [← hpr] at h3
      exact h3)
  have hmax := fold_max_eq (Finset.univ : Finset (Fin 2 × Fin 48 × Fin 96)) (fun i => f (row i.1 i.2.1) i.2.2)
    (p, r, topX f) (Finset.mem_univ _) (fun k _ => by
      have h3 := hF (row k.1 k.2.1) k.2.2
      rw [← hpr] at h3
      exact h3.1)
  pointwise [Gen.k0_pay24]
  rw [← hpr]
  refine key _ fun k _ => ?_
  rw [hmax, hf, ht, pay11_at, ← hpr]

/-- The greatest value of a joint's map, wherever it is asked for. -/
theorem fold_near (f : Fin 96 → Fin 96 → EReal) :
    Finset.fold max (Ideal.ofBits FTy.f32 4286578688#32) (fun i : Fin 2 × Fin 48 × Fin 96 => f (row i.1 i.2.1) i.2.2)
      Finset.univ = f (topY f) (topX f) := by
  obtain ⟨p, r, hpr⟩ := exists_row (topY f)
  have hF := first_top f
  rw [c_bot, fold_max_eq (Finset.univ : Finset (Fin 2 × Fin 48 × Fin 96)) (fun i => f (row i.1 i.2.1) i.2.2)
    (p, r, topX f) (Finset.mem_univ _) (fun k _ => by
      have h3 := hF (row k.1 k.2.1) k.2.2
      rw [← hpr] at h3
      exact h3.1)]
  rw [hpr]

/-! ### The centre's coordinates and weights -/

/-- The centre's row from its number. -/
theorem pay15_at (v26 v31 v33 : FVec Ideal S4x18x48x96 .f32) (c : Ideal .f32) (b : Fin 4) (y x : Fin 96)
    (h : Gen.k0_pay12 (F := Ideal) v26 v31 v33 c (ix1 b) = BitVec.ofNat 32 (num y x)) :
    Gen.k0_pay15 (Gen.k0_pay13 (F := Ideal) v26 v31 v33 c) (Gen.k0_pay14 (F := Ideal) v26 v31 v33 c) (ix1 b)
      = BitVec.ofNat 32 y.val := by
  pointwise [Gen.k0_pay15, Gen.k0_pay13, Gen.k0_pay14]
  rw [h]
  exact row_word y x

/-- The centre's column from its number. -/
theorem pay16_at (i j : IVec S4 32) (k : IVec S4 1) (b : Fin 4) (y x : Fin 96) (h : i (ix1 b) = BitVec.ofNat 32 (num y x))
    (h' : Gen.k0_pay15 j k (ix1 b) = BitVec.ofNat 32 y.val) :
    Gen.k0_pay16 i j k (ix1 b) = BitVec.ofNat 32 x.val := by
  pointwise [Gen.k0_pay16]
  rw [h, h']
  exact col_word y x

/-- The weights of the centre's place, row weight times column weight. -/
theorem pay17_at (i j : IVec S4 32) (k : IVec S4 1) (b : Fin 4) (y x : Fin 96)
    (hx : Gen.k0_pay16 i j k (ix1 b) = BitVec.ofNat 32 x.val)
    (hy : Gen.k0_pay15 j k (ix1 b) = BitVec.ofNat 32 y.val) (h w : Fin 48) :
    Gen.k0_pay17 (F := Ideal) i j k (ix4 b 0 h w) = ((wt h y : ℝ) : EReal) * ((wt w x : ℝ) : EReal) := by
  pointwise [Gen.k0_pay17]
  rw [hx, hy]
  exact congrArg₂ (· * ·) (wt_prog h y) (wt_prog w x)

/-- The enlarged offset maps at the centre. -/
theorem pay18_at (v : FVec Ideal S4x34x48x48 .f32) (c : FVec Ideal S4x1x48x48 .f32) (b : Fin 4) (y x : Fin 96)
    (hc : ∀ h w, c (ix4 b 0 h w) = ((wt h y : ℝ) : EReal) * ((wt w x : ℝ) : EReal)) (n : Fin 17) (k : Fin 2) :
    Gen.k0_pay18 (F := Ideal) v c (ix3 b n k) = res (fun h w => v (ix4 b ⟨n.val * 2 + k.val, by omega⟩ h w)) y x := by
  rw [← res_comb]
  pointwise [Gen.k0_pay18]
  exact Finset.sum_congr rfl fun h _ => Finset.sum_congr rfl fun w _ => by rw [hc]

/-- The regressed column. -/
theorem pay19_at (v : FVec Ideal S4x34x48x48 .f32) (i : IVec S4 32) (c : FVec Ideal S4x1x48x48 .f32) (b : Fin 4)
    (y x : Fin 96) (hc : ∀ h w, c (ix4 b 0 h w) = ((wt h y : ℝ) : EReal) * ((wt w x : ℝ) : EReal))
    (hi : i (ix1 b) = BitVec.ofNat 32 x.val) (n : Fin 17) :
    Gen.k0_pay19 (F := Ideal) v i c (ix2 b n)
      = min ((95 : ℝ) : EReal) (max 0 (((x.val : ℝ) : EReal)
          + res (fun h w => v (ix4 b ⟨n.val * 2 + (0 : Fin 2).val, by omega⟩ h w)) y x + ((1 / 2 : ℝ) : EReal))) := by
  pointwise [Gen.k0_pay19]
  rw [hi, sitofp_small _ (by omega), c_95, c_half, pay18_at v c b y x hc]
  rfl

/-- The regressed row. -/
theorem pay20_at (v : FVec Ideal S4x34x48x48 .f32) (i : IVec S4 32) (c : FVec Ideal S4x1x48x48 .f32) (b : Fin 4)
    (y x : Fin 96) (hc : ∀ h w, c (ix4 b 0 h w) = ((wt h y : ℝ) : EReal) * ((wt w x : ℝ) : EReal))
    (hi : i (ix1 b) = BitVec.ofNat 32 y.val) (n : Fin 17) :
    Gen.k0_pay20 (F := Ideal) v i c (ix2 b n)
      = min ((95 : ℝ) : EReal) (max 0 (((y.val : ℝ) : EReal)
          + res (fun h w => v (ix4 b ⟨n.val * 2 + (1 : Fin 2).val, by omega⟩ h w)) y x + ((1 / 2 : ℝ) : EReal))) := by
  pointwise [Gen.k0_pay20]
  rw [hi, sitofp_small _ (by omega), c_95, c_half]
  exact congrArg (fun e => min ((95 : ℝ) : EReal) (max 0 (((y.val : ℝ) : EReal) + e + ((1 / 2 : ℝ) : EReal))))
    (pay18_at v c b y x hc n 1)

end Cert.KernelIdeal.Point
-- ==== Proof.KPoint3.lean ====
module

public import proofs.«01_k».proof.Proof.KPoint2

/-! The kernel's joints: the weakened maps, the search in them, and the three results, read at an index. -/

@[expose] public section

set_option maxRecDepth 16384

noncomputable section

open Idealize.ShloMosaic Idealize.ShloMosaic.TcCoe Idealize.SL.Sem
open Cert.KernelIdeal Cert.KernelIdeal.Gen Cert.Joint

namespace Cert.KernelIdeal.Point

/-- A joint's enlarged map times the reciprocal root of the squared distance. -/
theorem pay21_at (v : FVec Ideal S4x34x48x48 .f32) (g : FVec Ideal S4x17x2x48x96 .f32) (i j : IVec S4 32)
    (c : FVec Ideal S4x1x48x48 .f32) (b : Fin 4) (n : Fin 17) (m : Fin 48 → Fin 48 → EReal) (gy gx : EReal)
    (hg : ∀ p r x, g (ix5 b n p r x) = res m (row p r) x)
    (hy : Gen.k0_pay20 (F := Ideal) v i c (ix2 b n) = gy) (hx : Gen.k0_pay19 (F := Ideal) v j c (ix2 b n) = gx)
    (p : Fin 2) (r : Fin 48) (x : Fin 96) :
    Gen.k0_pay21 (F := Ideal) v g Gen.k0_pay10 i j c (ix5 b n p r x) = near m gy gx (row p r) x := by
  pointwise [Gen.k0_pay21]
  rw [hy, hx, hg, pay10_at, sitofp_small _ (by omega), sitofp_small _ (by omega)]
  rfl

/-- The greatest value of a joint's weakened map. -/
theorem pay22_at (v : FVec Ideal S4x34x48x48 .f32) (g : FVec Ideal S4x17x2x48x96 .f32) (i j : IVec S4 32)
    (c : FVec Ideal S4x1x48x48 .f32) (b : Fin 4) (n : Fin 17) (f : Fin 96 → Fin 96 → EReal)
    (hf : ∀ p r x, Gen.k0_pay21 (F := Ideal) v g Gen.k0_pay10 i j c (ix5 b n p r x) = f (row p r) x) :
    Gen.k0_pay22 (F := Ideal) v g Gen.k0_pay10 i j c (ix2 b n) = f (topY f) (topX f) := by
  pointwise [Gen.k0_pay22]
  simp only [hf]
  exact fold_near f

/-- The greatest weakened value, spread over the map. -/
theorem pay23_at (v : FVec Ideal S4x34x48x48 .f32) (g : FVec Ideal S4x17x2x48x96 .f32) (i j : IVec S4 32)
    (c : FVec Ideal S4x1x48x48 .f32) (b : Fin 4) (n : Fin 17) (f : Fin 96 → Fin 96 → EReal)
    (hf : ∀ p r x, Gen.k0_pay21 (F := Ideal) v g Gen.k0_pay10 i j c (ix5 b n p r x) = f (row p r) x)
    (p : Fin 2) (r : Fin 48) (x : Fin 96) :
    Gen.k0_pay23 (F := Ideal) v g Gen.k0_pay10 i j c (ix5 b n p r x) = f (topY f) (topX f) := by
  rw [← pay22_at v g i j c b n f hf]
  pointwise [Gen.k0_pay23]

/-- A joint's row from its number. -/
theorem pay25_at (i : IVec S2x48x96 32) (v t : FVec Ideal S4x17x2x48x96 .f32) (b : Fin 4) (n : Fin 17) (y x : Fin 96)
    (h : Gen.k0_pay24 (F := Ideal) i v t (ix2 b n) = BitVec.ofNat 32 (num y x)) :
    Gen.k0_pay25 (F := Ideal) i v t (ix2 b n) = BitVec.ofNat 32 y.val := by
  pointwise [Gen.k0_pay25]
  rw [h]
  exact row_word y x

/-- A joint's column from its number. -/
theorem pay26_at (i : IVec S2x48x96 32) (v t : FVec Ideal S4x17x2x48x96 .f32) (b : Fin 4) (n : Fin 17) (y x : Fin 96)
    (h : Gen.k0_pay24 (F := Ideal) i v t (ix2 b n) = BitVec.ofNat 32 (num y x)) :
    Gen.k0_pay26 (F := Ideal) i v t (ix2 b n) = BitVec.ofNat 32 x.val := by
  have h' := pay25_at i v t b n y x h
  pointwise [Gen.k0_pay26]
  rw [h, h']
  exact col_word y x

/-- Weakening a value by a positive distance and undoing it gives the value back. -/
theorem weaken_undo (a : EReal) (d : ℝ) (hd : 0 < d) :
    a * Ideal.rsqrt (d : EReal) * Ideal.sqrt (d : EReal) = a := by
  rw [Ideal.rsqrt_coe, Ideal.sqrt_coe, if_neg (not_lt.2 hd.le), if_neg hd.ne', if_neg (not_lt.2 hd.le), mul_assoc,
    ← EReal.coe_mul, inv_mul_cancel₀ (Real.sqrt_pos.2 hd).ne', EReal.coe_one, mul_one]

/-- The score: the weakened value at the joint's place, the weakening undone. -/
theorem pay27_at (i : IVec S2x48x96 32) (gx gy M : FVec Ideal S4x17 .f32) (v t : FVec Ideal S4x17x2x48x96 .f32)
    (b : Fin 4) (n : Fin 17) (m : Fin 48 → Fin 48 → EReal) (ry rx : ℝ) (y x : Fin 96)
    (h : Gen.k0_pay24 (F := Ideal) i v t (ix2 b n) = BitVec.ofNat 32 (num y x))
    (hy : gy (ix2 b n) = (ry : EReal)) (hx : gx (ix2 b n) = (rx : EReal)) (hM : M (ix2 b n) = near m ry rx y x) :
    Gen.k0_pay27 (F := Ideal) i gx gy v M t (ix2 b n) = res m y x := by
  have h25 := pay25_at i v t b n y x h
  have h26 := pay26_at i v t b n y x h
  obtain ⟨d, hd, hdd⟩ := dist_real ry rx y x
  pointwise [Gen.k0_pay27]
  rw [h25, h26, hy, hx, hM, sitofp_small _ (by omega), sitofp_small _ (by omega)]
  refine Eq.trans (b := near m ry rx y x * Ideal.sqrt (dist ry rx y x)) rfl ?_
  unfold near
  rw [hdd]
  exact weaken_undo _ d hd

/-- The entries summed into one offset are its map's. -/
theorem fiber34 (j : S4x17x2.Idx) (i : S4x17x2x48x48.Idx) :
    reduces_S4x17x2x48x48_S4x17x2.drop i = j ↔ ∃ k : Fin 48 × Fin 48, ix5 (j 0) (j 1) (j 2) k.1 k.2 = i := by
  constructor
  · rintro rfl
    refine ⟨(i 3, i 4), ?_⟩
    funext a
    match a with
    | ⟨0, _⟩ => exact Fin.ext (reduces_S4x17x2x48x48_S4x17x2.drop_apply_val_of_eq i 0 0)
    | ⟨1, _⟩ => exact Fin.ext (reduces_S4x17x2x48x48_S4x17x2.drop_apply_val_of_eq i 1 1)
    | ⟨2, _⟩ => exact Fin.ext (reduces_S4x17x2x48x48_S4x17x2.drop_apply_val_of_eq i 2 2)
    | ⟨3, _⟩ => rfl
    | ⟨4, _⟩ => rfl
  · rintro ⟨k, rfl⟩
    funext a
    match a with
    | ⟨0, _⟩ => exact Fin.ext (reduces_S4x17x2x48x48_S4x17x2.drop_apply_val_of_eq _ 0 0)
    | ⟨1, _⟩ => exact Fin.ext (reduces_S4x17x2x48x48_S4x17x2.drop_apply_val_of_eq _ 1 1)
    | ⟨2, _⟩ => exact Fin.ext (reduces_S4x17x2x48x48_S4x17x2.drop_apply_val_of_eq _ 2 2)

/-- A sum over the last two of five axes. -/
theorem sum34 (v : S4x17x2x48x48.Idx → EReal) (b : Fin 4) (n : Fin 17) (k : Fin 2) :
    Ideal.reduceAdd reduces_S4x17x2x48x48_S4x17x2 v (ix3 b n k) = ∑ h : Fin 48, ∑ w : Fin 48, v (ix5 b n k h w) := by
  refine (Finset.sum_filter_eq_sum_of_fiber _ (fun q : Fin 48 × Fin 48 => (ix5 b n k q.1 q.2 : S4x17x2x48x48.Idx))
    (fun _ _ e => Prod.ext (congrFun e 3) (congrFun e 4)) (fiber34 (ix3 b n k)) v).trans ?_
  simp only [Fintype.sum_prod_type]

/-- The enlarged offset maps at the joint's place. -/
theorem pay29_at (v : FVec Ideal S4x34x48x48 .f32) (i : IVec S4x17 32) (c : FVec Ideal S4x17 .f32) (b : Fin 4)
    (n : Fin 17) (k : Fin 2) (y x : Fin 96) (hi : i (ix2 b n) = BitVec.ofNat 32 x.val)
    (hc : c (ix2 b n) = Ideal.ofBits .f32 0x3F000000#32 * FloatOps.sitofp (F := Ideal) FTy.f32 (BitVec.ofNat 32 y.val)) :
    Gen.k0_pay29 (F := Ideal) v i c (ix3 b n k) = res (fun h w => v (ix4 b ⟨n.val * 2 + k.val, by omega⟩ h w)) y x := by
  rw [← res_comb]
  pointwise [Gen.k0_pay29]
  refine (sum34 _ b n k).trans ?_
  refine Finset.sum_congr rfl fun h _ => Finset.sum_congr rfl fun w _ => ?_
  pointwise
  rw [hi, hc]
  exact congrArg (v _ * ·) (congrArg₂ (· * ·) (wt_prog h y) (wt_prog w x))

end Cert.KernelIdeal.Point
-- ==== Proof.KBlock.lean ====
module

public import proofs.«01_k».proof.Proof.KPoint3

/-! The three results of one grid point, from the blocks it reads. -/

@[expose] public section

set_option maxRecDepth 16384

noncomputable section

open Idealize.ShloMosaic Idealize.ShloMosaic.TcCoe Idealize.SL.Sem
open Cert.KernelIdeal Cert.KernelIdeal.Gen Cert.Joint

namespace Cert.KernelIdeal.Point

section

variable (x0 : FVec Ideal S4x17x48x48 .f32) (x1 : FVec Ideal S4x1x48x48 .f32) (x2 x3 : FVec Ideal S4x34x48x48 .f32)
  (x4 : FVec Ideal S48x96 .f32)

/-- The quarter the enlargement along the rows uses. -/
abbrev quarter : Ideal .f32 := Scalar.ofBits .f32 0x3E800000#32
/-- The joints' enlarged maps. -/
abbrev big := Gen.k0_pay9 (Gen.k0_pay5 (F := Ideal) x4 x0 x1) (Gen.k0_pay6 x4 x0 x1) (Gen.k0_pay7 x4 x0 x1) quarter
/-- The number of the centre. -/
abbrev numC := Gen.k0_pay12 (Gen.k0_pay5 (F := Ideal) x4 x0 x1) (Gen.k0_pay6 x4 x0 x1) (Gen.k0_pay7 x4 x0 x1) quarter
/-- The quotient before it is corrected. -/
abbrev quoC := Gen.k0_pay13 (Gen.k0_pay5 (F := Ideal) x4 x0 x1) (Gen.k0_pay6 x4 x0 x1) (Gen.k0_pay7 x4 x0 x1) quarter
/-- Whether it is corrected. -/
abbrev bitC := Gen.k0_pay14 (Gen.k0_pay5 (F := Ideal) x4 x0 x1) (Gen.k0_pay6 x4 x0 x1) (Gen.k0_pay7 x4 x0 x1) quarter
/-- The row of the centre. -/
abbrev rowC := Gen.k0_pay15 (quoC x0 x1 x4) (bitC x0 x1 x4)
/-- The centre's column. -/
abbrev colC := Gen.k0_pay16 (numC x0 x1 x4) (quoC x0 x1 x4) (bitC x0 x1 x4)
/-- The centre's weights. -/
abbrev wtC := Gen.k0_pay17 (F := Ideal) (numC x0 x1 x4) (quoC x0 x1 x4) (bitC x0 x1 x4)
/-- The weakened maps. -/
abbrev weak := Gen.k0_pay21 x2 (big x0 x1 x4) Gen.k0_pay10 (rowC x0 x1 x4) (colC x0 x1 x4) (wtC x0 x1 x4)
/-- The greatest values. -/
abbrev best := Gen.k0_pay23 x2 (big x0 x1 x4) Gen.k0_pay10 (rowC x0 x1 x4) (colC x0 x1 x4) (wtC x0 x1 x4)

/-- Half of a joint's row, as a number. -/
theorem pay28_at (i : IVec S2x48x96 32) (v t : FVec Ideal S4x17x2x48x96 .f32) (b : Fin 4) (n : Fin 17) (y x : Fin 96)
    (h : Gen.k0_pay24 (F := Ideal) i v t (ix2 b n) = BitVec.ofNat 32 (num y x)) :
    Gen.k0_pay28 (F := Ideal) i v t (ix2 b n)
      = Ideal.ofBits .f32 0x3F000000#32 * FloatOps.sitofp (F := Ideal) FTy.f32 (BitVec.ofNat 32 y.val) := by
  have h' := pay25_at i v t b n y x h
  pointwise [Gen.k0_pay28]
  rw [h']

/-- One joint's maps in a block. -/
abbrev mapM (b : Fin 4) (n : Fin 17) (h w : Fin 48) : EReal := x0 (ix4 b n h w)
/-- The centre map in a block. -/
abbrev mapC (b : Fin 4) (h w : Fin 48) : EReal := x1 (ix4 b 0 h w)
/-- The joint's column regression map. -/
abbrev mapX (b : Fin 4) (n : Fin 17) (h w : Fin 48) : EReal := x2 (ix4 b ⟨n.val * 2 + (0 : Fin 2).val, by omega⟩ h w)
/-- The joint's row regression map. -/
abbrev mapY (b : Fin 4) (n : Fin 17) (h w : Fin 48) : EReal := x2 (ix4 b ⟨n.val * 2 + (1 : Fin 2).val, by omega⟩ h w)

/-- The row of a joint in a block. -/
abbrev placeY (b : Fin 4) (n : Fin 17) : Fin 96 := jy (mapM x0 b n) (mapC x1 b) (mapY x2 b n) (mapX x2 b n)
/-- The column of a joint in a block. -/
abbrev placeX (b : Fin 4) (n : Fin 17) : Fin 96 := jx (mapM x0 b n) (mapC x1 b) (mapY x2 b n) (mapX x2 b n)

/-- What the search leaves at one joint: the weakened map, its first greatest place, and the regressed place. -/
theorem search (hC : ∀ i o, x4 (ix2 i o) = ((wt i o : ℝ) : EReal)) (f0 : ∀ i, x0 i ≠ ⊤)
    (f1 : ∀ i, x1 i ≠ ⊤) (b : Fin 4) (n : Fin 17) :
    Gen.k0_pay24 (F := Ideal) Gen.k0_pay11 (weak x0 x1 x2 x4) (best x0 x1 x2 x4) (ix2 b n)
        = BitVec.ofNat 32 (num (placeY x0 x1 x2 b n) (placeX x0 x1 x2 b n))
      ∧ Gen.k0_pay20 (F := Ideal) x2 (rowC x0 x1 x4) (wtC x0 x1 x4) (ix2 b n)
        = reg (mapC x1 b) (cy (mapC x1 b)) (mapY x2 b n)
      ∧ Gen.k0_pay19 (F := Ideal) x2 (colC x0 x1 x4) (wtC x0 x1 x4) (ix2 b n)
        = reg (mapC x1 b) (cx (mapC x1 b)) (mapX x2 b n)
      ∧ Gen.k0_pay22 (F := Ideal) x2 (big x0 x1 x4) Gen.k0_pay10 (rowC x0 x1 x4) (colC x0 x1 x4) (wtC x0 x1 x4) (ix2 b n)
        = near (mapM x0 b n) (reg (mapC x1 b) (cy (mapC x1 b)) (mapY x2 b n))
            (reg (mapC x1 b) (cx (mapC x1 b)) (mapX x2 b n)) (placeY x0 x1 x2 b n) (placeX x0 x1 x2 b n) := by
  let G : Fin 4 → Fin 18 → Fin 48 → Fin 48 → EReal := fun b => Fin.cases (mapC x1 b) (mapM x0 b)
  have hG : ∀ b n h w, G b n h w ≠ ⊤ := fun b n h w => by
    refine Fin.cases ?_ (fun n => ?_) n
    · exact f1 _
    · exact f0 _
  have h1 : ∀ b n h w, x0 (ix4 b n h w) = G b n.succ h w := fun b n h w => rfl
  have h2 : ∀ b h w, x1 (ix4 b 0 h w) = G b 0 h w := fun b h w => rfl
  have hn : numC x0 x1 x4 (ix1 b) = BitVec.ofNat 32 (num (cy (mapC x1 b)) (cx (mapC x1 b))) :=
    pay12_at _ _ _ _ b _ fun p r x => (pay8_at x4 hC x0 x1 G hG h1 h2 b 0 p r x).trans rfl
  have hy : rowC x0 x1 x4 (ix1 b) = BitVec.ofNat 32 (cy (mapC x1 b)).val := pay15_at _ _ _ _ b _ _ hn
  have hx : colC x0 x1 x4 (ix1 b) = BitVec.ofNat 32 (cx (mapC x1 b)).val := pay16_at _ _ _ b _ _ hn hy
  have hw := pay17_at (numC x0 x1 x4) (quoC x0 x1 x4) (bitC x0 x1 x4) b _ _ hx hy
  have hgy := pay20_at x2 (rowC x0 x1 x4) (wtC x0 x1 x4) b _ _ hw hy n
  have hgx := pay19_at x2 (colC x0 x1 x4) (wtC x0 x1 x4) b _ _ hw hx n
  have hweak := pay21_at x2 (big x0 x1 x4) (rowC x0 x1 x4) (colC x0 x1 x4) (wtC x0 x1 x4) b n (mapM x0 b n) _ _
    (fun p r x => (pay9_at x4 hC x0 x1 G hG h1 h2 b n p r x).trans rfl) hgy hgx
  exact ⟨pay24_at _ _ b n _ hweak (pay23_at _ _ _ _ _ b n _ hweak), hgy, hgx, pay22_at _ _ _ _ _ b n _ hweak⟩

variable (hC : ∀ i o, x4 (ix2 i o) = ((wt i o : ℝ) : EReal)) (f0 : ∀ i, x0 i ≠ ⊤)
  (f1 : ∀ i, x1 i ≠ ⊤) (b : Fin 4) (n : Fin 17)

include hC f0 f1

/-- The first result: the joint's column coordinate. -/
theorem outX_at : Gen.k0_pay1 (Gen.k0_pay30 (F := Ideal) x3 (Gen.k0_pay26 Gen.k0_pay11 (weak x0 x1 x2 x4) (best x0 x1 x2 x4))
      (Gen.k0_pay28 Gen.k0_pay11 (weak x0 x1 x2 x4) (best x0 x1 x2 x4))) (ix3 b 0 n)
    = coord (placeX x0 x1 x2 b n) (placeY x0 x1 x2 b n) (placeX x0 x1 x2 b n) (mapX x3 b n) := by
  have hs := (search x0 x1 x2 x4 hC f0 f1 b n).1
  have h26 := pay26_at _ _ _ b n _ _ hs
  have h29 := pay29_at x3 _ _ b n 0 _ _ h26 (pay28_at _ _ _ b n _ _ hs)
  pointwise [Gen.k0_pay1, Gen.k0_pay30]
  rw [h26, h29, sitofp_small _ (by omega), c_96]
  rfl

/-- The second result: the joint's row coordinate. -/
theorem outY_at : Gen.k0_pay2 (F := Ideal) (Gen.k0_pay25 Gen.k0_pay11 (weak x0 x1 x2 x4) (best x0 x1 x2 x4))
      (Gen.k0_pay29 x3 (Gen.k0_pay26 Gen.k0_pay11 (weak x0 x1 x2 x4) (best x0 x1 x2 x4))
        (Gen.k0_pay28 Gen.k0_pay11 (weak x0 x1 x2 x4) (best x0 x1 x2 x4))) (ix3 b 0 n)
    = coord (placeY x0 x1 x2 b n) (placeY x0 x1 x2 b n) (placeX x0 x1 x2 b n) (mapY x3 b n) := by
  have hs := (search x0 x1 x2 x4 hC f0 f1 b n).1
  have h25 := pay25_at _ _ _ b n _ _ hs
  have h26 := pay26_at _ _ _ b n _ _ hs
  have h29 := pay29_at x3 _ _ b n 1 _ _ h26 (pay28_at _ _ _ b n _ _ hs)
  pointwise [Gen.k0_pay2]
  rw [h25, h29, sitofp_small _ (by omega), c_96]
  rfl

/-- The third result: the joint's enlarged heat map at its place. -/
theorem outS_at : Gen.k0_pay3 (Gen.k0_pay27 (F := Ideal) Gen.k0_pay11 (Gen.k0_pay19 x2 (colC x0 x1 x4) (wtC x0 x1 x4))
      (Gen.k0_pay20 x2 (rowC x0 x1 x4) (wtC x0 x1 x4)) (weak x0 x1 x2 x4)
      (Gen.k0_pay22 x2 (big x0 x1 x4) Gen.k0_pay10 (rowC x0 x1 x4) (colC x0 x1 x4) (wtC x0 x1 x4))
      (best x0 x1 x2 x4)) (ix3 b 0 n)
    = res (mapM x0 b n) (placeY x0 x1 x2 b n) (placeX x0 x1 x2 b n) := by
  obtain ⟨hs, hgy, hgx, hM⟩ := search x0 x1 x2 x4 hC f0 f1 b n
  obtain ⟨ry, hry⟩ := reg_real (mapC x1 b) (cy (mapC x1 b)) (mapY x2 b n)
  obtain ⟨rx, hrx⟩ := reg_real (mapC x1 b) (cx (mapC x1 b)) (mapX x2 b n)
  rw [hry] at hgy hM
  rw [hrx] at hgx hM
  refine Eq.trans ?_ (pay27_at _ _ _ _ _ _ b n _ ry rx _ _ hs hgy hgx hM)
  pointwise [Gen.k0_pay3]

end

end Cert.KernelIdeal.Point
-- ==== Proof.Table.lean ====
module

public import proofs.«01_k».proof.Proof.KBlock

/-! The weight table the kernel carries holds the enlargement's weights. -/

@[expose] public section

set_option maxRecDepth 16384

noncomputable section

open Idealize.ShloMosaic Idealize.ShloMosaic.TcCoe Idealize.SL.Sem
open Cert.KernelIdeal Cert.Joint

namespace Cert.KernelIdeal.Point

/-- The word of a weight of none, one, three or four quarters. -/
def word (z : ℤ) : BitVec 32 :=
  if z = 0 then 0x00000000#32 else if z = 1 then 0x3E800000#32 else if z = 3 then 0x3F400000#32 else 0x3F800000#32

/-- The table holds the words of the weights. -/
theorem table_word : ∀ (i : Fin 48) (o : Fin 96), lit0t (i.val * 96 + o.val) = word (wz i o) := by
  decide +kernel

/-- A weight is none, one, three or four quarters. -/
theorem table_range : ∀ (i : Fin 48) (o : Fin 96), wz i o = 0 ∨ wz i o = 1 ∨ wz i o = 3 ∨ wz i o = 4 := by
  decide +kernel

/-- The table's entry is the weight. -/
theorem table_at (i : Fin 48) (o : Fin 96) :
    Ideal.ofBits .f32 (lit0t (i.val * 96 + o.val)) = ((wt i o : ℝ) : EReal) := by
  rw [table_word]
  unfold wt
  rcases table_range i o with h | h | h | h <;> rw [h]
  · exact c_zero.trans (by norm_num)
  · exact c_quarter.trans (by norm_num)
  · exact c_three_quarters.trans (by norm_num)
  · exact c_one.trans (by norm_num)

end Cert.KernelIdeal.Point
-- ==== Proof.Spec.lean ====
module

public import proofs.«01_k».proof.Proof.Scalars

/-! The three numbers of each joint, from the four argument maps. -/

@[expose] public section

noncomputable section

open Idealize.ShloMosaic

namespace Cert.Joint

variable (H : Fin 128 → Fin 17 → Fin 48 → Fin 48 → EReal) (T : Fin 128 → Fin 48 → Fin 48 → EReal)
  (R O : Fin 128 → Fin 34 → Fin 48 → Fin 48 → EReal) (B : Fin 128) (n : Fin 17)

/-- The first of a joint's two regression or offset maps, the columns'. -/
def chX (n : Fin 17) : Fin 34 := ⟨n.val * 2 + (0 : Fin 2).val, by omega⟩
/-- The second of the two. -/
def chY (n : Fin 17) : Fin 34 := ⟨n.val * 2 + (1 : Fin 2).val, by omega⟩

/-- The joint's row. -/
def atY : Fin 96 := jy (H B n) (T B) (R B (chY n)) (R B (chX n))
/-- The joint's column. -/
def atX : Fin 96 := jx (H B n) (T B) (R B (chY n)) (R B (chX n))

/-- The joint's column coordinate. -/
def valX : EReal := coord (atX H T R B n) (atY H T R B n) (atX H T R B n) (O B (chX n))
/-- The joint's row coordinate. -/
def valY : EReal := coord (atY H T R B n) (atY H T R B n) (atX H T R B n) (O B (chY n))
/-- The joint's score. -/
def valS : EReal := res (H B n) (atY H T R B n) (atX H T R B n)

/-- The three numbers of a joint in order. -/
def joint : Fin 3 → EReal := ![valX H T R O B n, valY H T R O B n, valS H T R B n]

end Cert.Joint
-- ==== Proof.KFinal.lean ====
module

public import proofs.«01_k».proof.Proof.Table
public import proofs.«01_k».proof.Proof.Spec
public import proofs.«01_k».proof.Proof.Gen.KernelIdeal.Frame
public import Idealize.ShloMosaic.Lib.Pipeline.ValueKit

/-! The kernel's three result arrays after its run. -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Joint Cert.KernelIdeal.Point

namespace Cert.KernelIdeal.Value

variable (m : (ℓ : Loc nD τ sig) → Buf (Elt Ideal) ℓ)

/-- Every window's block index at a grid point. -/
theorem idx : ∀ t : Fin cfg0.N, win0_0.index t = ![t.val, 0, 0, 0] ∧ win0_1.index t = ![t.val, 0, 0, 0]
    ∧ win0_2.index t = ![t.val, 0, 0, 0] ∧ win0_3.index t = ![t.val, 0, 0, 0] ∧ win0_4.index t = ![0, 0]
    ∧ win0_5.index t = ![t.val, 0, 0] ∧ win0_6.index t = ![t.val, 0, 0] ∧ win0_7.index t = ![t.val, 0, 0] :=
  (by decide +kernel : ∀ t : Fin grid0.N, _)

/-- The heat maps of a device. -/
def argH (c : Dev nD) (B : Fin 128) (n : Fin 17) (h w : Fin 48) : EReal :=
  (m ((c : Thread nD τ).loc main_arg0) : FVec Ideal S128x17x48x48 .f32) (ix4 B n h w)
/-- The centre maps. -/
def argT (c : Dev nD) (B : Fin 128) (h w : Fin 48) : EReal :=
  (m ((c : Thread nD τ).loc main_arg1) : FVec Ideal S128x1x48x48 .f32) (ix4 B 0 h w)
/-- The regression maps. -/
def argR (c : Dev nD) (B : Fin 128) (n : Fin 34) (h w : Fin 48) : EReal :=
  (m ((c : Thread nD τ).loc main_arg2) : FVec Ideal S128x34x48x48 .f32) (ix4 B n h w)
/-- The offset maps. -/
def argO (c : Dev nD) (B : Fin 128) (n : Fin 34) (h w : Fin 48) : EReal :=
  (m ((c : Thread nD τ).loc main_arg3) : FVec Ideal S128x34x48x48 .f32) (ix4 B n h w)

/-- The batch entry a block's row stands for. -/
def batch (t : Fin cfg0.N) (b : Fin 4) : Fin 128 := ⟨t.val * 4 + b.val, by have : t.val < 32 := t.isLt; omega⟩

/-- A heat-map block entry is the argument's. -/
theorem read0 (c : Dev nD) (t : Fin cfg0.N) (b : Fin 4) (n : Fin 17) (h w : Fin 48) :
    (iblk m c 0 t : FVec Ideal S4x17x48x48 .f32) (ix4 b n h w) = argH m c (batch t b) n h w := by
  unfold argH batch
  blk_ext [iblk, V, idx t]

/-- A centre-map block entry is the argument's. -/
theorem read1 (c : Dev nD) (t : Fin cfg0.N) (b : Fin 4) (h w : Fin 48) :
    (iblk m c 1 t : FVec Ideal S4x1x48x48 .f32) (ix4 b 0 h w) = argT m c (batch t b) h w := by
  unfold argT batch
  blk_ext [iblk, V, idx t]

/-- A regression block entry is the argument's. -/
theorem read2 (c : Dev nD) (t : Fin cfg0.N) (b : Fin 4) (n : Fin 34) (h w : Fin 48) :
    (iblk m c 2 t : FVec Ideal S4x34x48x48 .f32) (ix4 b n h w) = argR m c (batch t b) n h w := by
  unfold argR batch
  blk_ext [iblk, V, idx t]

/-- An offset block entry is the argument's. -/
theorem read3 (c : Dev nD) (t : Fin cfg0.N) (b : Fin 4) (n : Fin 34) (h w : Fin 48) :
    (iblk m c 3 t : FVec Ideal S4x34x48x48 .f32) (ix4 b n h w) = argO m c (batch t b) n h w := by
  unfold argO batch
  blk_ext [iblk, V, idx t]

end Cert.KernelIdeal.Value
-- ==== Proof.KArrays.lean ====
module

public import proofs.«01_k».proof.Proof.KFinal
public import proofs.«01_k».proof.Proof.Spec
public import proofs.«01_k».proof.Proof.Gen.KernelIdeal.Frame
public import Idealize.ShloMosaic.Lib.Pipeline.ValueKit
public import Idealize.ShloMosaic.Lib.StableHlo.RunRead

/-! The three result arrays after the kernel's run, as the joints' numbers. -/

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.Joint Cert.KernelIdeal.Point

namespace Cert.KernelIdeal.Value

variable (m : (ℓ : Loc nD τ sig) → Buf (Elt Ideal) ℓ)

/-- The table's block is the table. -/
theorem read4 (c : Dev nD) (t : Fin cfg0.N) (i : Fin 48) (o : Fin 96) :
    (iblk m c 4 t : FVec Ideal S48x96 .f32) (ix2 i o) = ((wt i o : ℝ) : EReal) := by
  rw [← table_at]
  blk_simp [iblk, idx t]
  entry_read
  have e : (((View.whole main_cst).slice (win0_4.rect t)).emb (ix2 i o) : S48x96.Idx) = ix2 i o := by blk_ext [idx t]
  simp only [List.flatten_cons, List.flatten_nil, List.append_nil, hostOps0]
  after_reads_simp
  rw [e]
  exact congrArg (fun k => Ideal.ofBits .f32 (lit0t k)) (Shape.rowMajor_val_two _)

/-- An index of a block of results. -/
theorem exists_ix (y : S4x1x17.Idx) : ∃ (b : Fin 4) (n : Fin 17), y = ix3 b 0 n :=
  ⟨y 0, y 2, by blk_ext⟩

section

variable (f0 : ∀ c B n h w, argH m c B n h w ≠ ⊤) (f1 : ∀ c B h w, argT m c B h w ≠ ⊤)

include f0 in
/-- A block of the heat maps holds no plus infinity if they hold none. -/
theorem below0 (c : Dev nD) (t : Fin cfg0.N) (i : S4x17x48x48.Idx) :
    @Ne EReal ((iblk m c 0 t : FVec Ideal S4x17x48x48 .f32) i) ⊤ := by
  have e : ∃ (b : Fin 4) (n : Fin 17) (h w : Fin 48), i = ix4 b n h w := ⟨i 0, i 1, i 2, i 3, by blk_ext⟩
  obtain ⟨b, n, h, w, rfl⟩ := e
  exact fun e => f0 c (batch t b) n h w ((read0 m c t b n h w).symm.trans e)

include f1 in
/-- The same for the centre map. -/
theorem below1 (c : Dev nD) (t : Fin cfg0.N) (i : S4x1x48x48.Idx) :
    @Ne EReal ((iblk m c 1 t : FVec Ideal S4x1x48x48 .f32) i) ⊤ := by
  have e : ∃ (b : Fin 4) (h w : Fin 48), i = ix4 b 0 h w := ⟨i 0, i 2, i 3, by blk_ext⟩
  obtain ⟨b, h, w, rfl⟩ := e
  exact fun e => f1 c (batch t b) h w ((read1 m c t b h w).symm.trans e)

/-- The blocks' maps are the arguments' maps. -/
theorem maps0 (c : Dev nD) (t : Fin cfg0.N) (b : Fin 4) (n : Fin 17) :
    mapM (iblk m c 0 t) b n = argH m c (batch t b) n := by
  funext h w
  exact read0 m c t b n h w
/-- The centre map of a block. -/
theorem maps1 (c : Dev nD) (t : Fin cfg0.N) (b : Fin 4) : mapC (iblk m c 1 t) b = argT m c (batch t b) := by
  funext h w
  exact read1 m c t b h w
/-- The column regression map of a block. -/
theorem maps2x (c : Dev nD) (t : Fin cfg0.N) (b : Fin 4) (n : Fin 17) :
    mapX (iblk m c 2 t) b n = argR m c (batch t b) (chX n) := by
  funext h w
  exact read2 m c t b _ h w
/-- The row regression map of a block. -/
theorem maps2y (c : Dev nD) (t : Fin cfg0.N) (b : Fin 4) (n : Fin 17) :
    mapY (iblk m c 2 t) b n = argR m c (batch t b) (chY n) := by
  funext h w
  exact read2 m c t b _ h w
/-- The column offset map of a block. -/
theorem maps3x (c : Dev nD) (t : Fin cfg0.N) (b : Fin 4) (n : Fin 17) :
    mapX (iblk m c 3 t) b n = argO m c (batch t b) (chX n) := by
  funext h w
  exact read3 m c t b _ h w
/-- The row offset map of a block. -/
theorem maps3y (c : Dev nD) (t : Fin cfg0.N) (b : Fin 4) (n : Fin 17) :
    mapY (iblk m c 3 t) b n = argO m c (batch t b) (chY n) := by
  funext h w
  exact read3 m c t b _ h w

/-- The column coordinates. -/
def arrX (c : Dev nD) : FVec Ideal S128x1x17 .f32 := fun i => valX (argH m c) (argT m c) (argR m c) (argO m c) (i 0) (i 2)
/-- The row coordinates. -/
def arrY (c : Dev nD) : FVec Ideal S128x1x17 .f32 := fun i => valY (argH m c) (argT m c) (argR m c) (argO m c) (i 0) (i 2)
/-- The scores. -/
def arrS (c : Dev nD) : FVec Ideal S128x1x17 .f32 := fun i => valS (argH m c) (argT m c) (argR m c) (i 0) (i 2)

include f0 f1

/-- The first array at the end holds the column coordinates. -/
theorem final5 (c : Dev nD) : (dats m 0 c).arrAt 5 (cfgs 0).N = arrX m c := by
  refine (dats m 0 c).arrAt_eq_of_covers 5 _ (by decide +kernel) fun t _ y => ?_
  blk_simp
  rw [after0_5]
  frame_out
  unfold k0_pay46 k0_pay45 k0_pay44 k0_pay43 k0_pay42 k0_pay41 k0_pay40 k0_pay39 k0_pay38 k0_pay37 k0_pay36 k0_pay35 k0_pay34 k0_pay33 k0_pay32 k0_pay31
  frame_out
  obtain ⟨b, n, rfl⟩ := exists_ix y
  have e : (((View.whole main_v0_0).slice (win0_5.rect t)).emb (ix3 b 0 n) : S128x1x17.Idx) = ix3 (batch t b) 0 n := by
    unfold batch
    blk_ext [idx t]
  refine (outX_at _ _ _ _ _ (read4 m c t) (below0 m f0 c t) (below1 m f1 c t) b n).trans ?_
  refine Eq.trans ?_ (congrArg (arrX m c) e).symm
  unfold placeX placeY
  rw [maps0, maps1, maps2x, maps2y, maps3x]
  rfl

/-- The second array at the end holds the row coordinates. -/
theorem final6 (c : Dev nD) : (dats m 0 c).arrAt 6 (cfgs 0).N = arrY m c := by
  refine (dats m 0 c).arrAt_eq_of_covers 6 _ (by decide +kernel) fun t _ y => ?_
  blk_simp
  rw [after0_6]
  frame_out
  unfold k0_pay46 k0_pay45 k0_pay44 k0_pay43 k0_pay42 k0_pay41 k0_pay40 k0_pay39 k0_pay38 k0_pay37 k0_pay36 k0_pay35 k0_pay34 k0_pay33 k0_pay32 k0_pay31
  frame_out
  obtain ⟨b, n, rfl⟩ := exists_ix y
  have e : (((View.whole main_v0_1).slice (win0_6.rect t)).emb (ix3 b 0 n) : S128x1x17.Idx) = ix3 (batch t b) 0 n := by
    unfold batch
    blk_ext [idx t]
  refine (outY_at _ _ _ _ _ (read4 m c t) (below0 m f0 c t) (below1 m f1 c t) b n).trans ?_
  refine Eq.trans ?_ (congrArg (arrY m c) e).symm
  unfold placeX placeY
  rw [maps0, maps1, maps2x, maps2y, maps3y]
  rfl

/-- The third array at the end holds the scores. -/
theorem final7 (c : Dev nD) : (dats m 0 c).arrAt 7 (cfgs 0).N = arrS m c := by
  refine (dats m 0 c).arrAt_eq_of_covers 7 _ (by decide +kernel) fun t _ y => ?_
  blk_simp
  rw [after0_7]
  frame_out
  unfold k0_pay44 k0_pay43 k0_pay42 k0_pay41 k0_pay40 k0_pay39 k0_pay38 k0_pay37 k0_pay36 k0_pay35 k0_pay34 k0_pay33 k0_pay32 k0_pay31
  frame_out
  obtain ⟨b, n, rfl⟩ := exists_ix y
  have e : (((View.whole main_v0_2).slice (win0_7.rect t)).emb (ix3 b 0 n) : S128x1x17.Idx) = ix3 (batch t b) 0 n := by
    unfold batch
    blk_ext [idx t]
  refine (outS_at _ _ _ _ (read4 m c t) (below0 m f0 c t) (below1 m f1 c t) b n).trans ?_
  refine Eq.trans ?_ (congrArg (arrS m c) e).symm
  unfold placeX placeY
  rw [maps0, maps1, maps2x, maps2y]
  rfl

end

end Cert.KernelIdeal.Value
-- ==== Proof.KRun.lean ====
module

public import proofs.«01_k».proof.Proof.KArrays
public import Idealize.ShloMosaic.Lib.Pointwise

/-! The kernel's run: what its result buffer holds at the end. -/

@[expose] public section

set_option maxRecDepth 16384

noncomputable section

open Idealize.ShloMosaic Idealize.ShloMosaic.TcCoe Idealize.SL.Sem
open Cert.KernelIdeal Cert.KernelIdeal.Gen Cert.Joint

namespace Cert.KernelIdeal.Value

/-- One of three by number. -/
theorem pick3 (a b c : EReal) (k : Fin 3) (i : ℕ) (h : i = k.val) :
    (if _ : i < 1 then a else if _ : i - 1 < 1 then b else c) = (![a, b, c] : Fin 3 → EReal) k := by
  subst h
  fin_cases k <;> rfl

/-- Triples with equal entries agree at every place. -/
theorem three {a b c a' b' c' : EReal} (h0 : a = a') (h1 : b = b') (h2 : c = c') (k : Fin 3) :
    (![a, b, c] : Fin 3 → EReal) k = (![a', b', c'] : Fin 3 → EReal) k := by
  rw [h0, h1, h2]

/-- The operations after the region: the three arrays side by side. -/
theorem tail_at (U : Valuation τ sig (Elt Ideal)) (B : Fin 128) (q : Fin 51) :
    (StableHlo.after hostOps1 U (Proc.devRef .tc main_v8) : FVec Ideal S128x51 .f32) (ix2 B q)
      = (![(U (Proc.devRef .tc main_v0_0) : FVec Ideal S128x1x17 .f32) (ix3 B 0 ⟨q.val / 3, by omega⟩),
          (U (Proc.devRef .tc main_v0_1) : FVec Ideal S128x1x17 .f32) (ix3 B 0 ⟨q.val / 3, by omega⟩),
          (U (Proc.devRef .tc main_v0_2) : FVec Ideal S128x1x17 .f32) (ix3 B 0 ⟨q.val / 3, by omega⟩)] : Fin 3 → EReal)
        ⟨q.val % 3, by omega⟩ := by
  simp only [hostOps1]
  after_reads_simp
  pointwise
  after_reads_simp
  pointwise
  refine Eq.trans ?_ (pick3 _ _ _ ⟨q.val % 3, by omega⟩ (q.val % 3) rfl)
  rfl

variable (m : (ℓ : Loc nD τ sig) → Buf (Elt Ideal) ℓ) (ρ : Dev nD → PrngReg)

/-- The result: three numbers for each of the seventeen joints. -/
def out (c : Dev nD) : FVec Ideal S128x51 .f32 := fun j =>
  joint (argH m c) (argT m c) (argR m c) (argO m c) (j 0) ⟨(j 1).val / 3, by have : (j 1).val < 51 := (j 1).isLt; omega⟩
    ⟨(j 1).val % 3, by omega⟩

/-- The kernel's run from maps without plus infinity: the result buffer and the arguments at the end. -/
theorem run (f0 : ∀ c B n h w, argH m c B n h w ≠ ⊤)
    (f1 : ∀ c B h w, argT m c B h w ≠ ⊤) :
    θ_run (defs (F := Ideal)) (onTc (τ := τ) (main (F := Ideal))) ⟨m, fun _ => 0, ρ⟩ fun r =>
      ∀ c : Dev nD, r.2.mem ((c.tc : Thread nD τ).loc main_v8) = out m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := by
  refine (θ_run defs _ _).mono (fun r h c => ⟨((h c).2 main_v8 (by decide)).trans ?_,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)
  unfold Pipeline.afterTail₀
  rw [show ([hostOps1] : List (List (HloOp τ sig (Elt Ideal)))).flatten = hostOps1 from List.append_nil _]
  have hw := fun w => Pipeline.withArrays_arr spec0 launch0.win.arr_inj c (V0 m c) (fun w => (dats m 0 c).arrAt w cfg0.N) w
  have h5 := (hw 5).trans (final5 m f0 f1 c)
  have h6 := (hw 6).trans (final6 m f0 f1 c)
  have h7 := (hw 7).trans (final7 m f0 f1 c)
  funext j
  have hj : ∃ (B : Fin 128) (q : Fin 51), j = ix2 B q := ⟨j 0, j 1, by blk_ext⟩
  obtain ⟨B, q, rfl⟩ := hj
  refine (tail_at _ B q).trans ?_
  exact three (congrFun h5 _) (congrFun h6 _) (congrFun h7 _) _

end Cert.KernelIdeal.Value
-- ==== Proof.RefMaps.lean ====
module

public import proofs.«01_k».proof.Proof.RefLine
public import proofs.«01_k».proof.Proof.Scalars
public import Idealize.ShloMosaic.Lib.Pointwise

/-! The reference's enlarged maps: its resize weights, and the maps resized with them. -/

@[expose] public section

set_option maxRecDepth 16384

noncomputable section

open Idealize.ShloMosaic Idealize.ShloMosaic.TcCoe Idealize.SL.Sem Idealize.ShloMosaic.StableHlo
open Cert.ReferenceIdeal Cert.Joint

namespace Cert.ReferenceIdeal.Line

/-- The reference's operations from one position to another. -/
def seg (a b : ℕ) : List (HloOp τ sig (Elt Ideal)) := (ops.take b).drop a

/-- The triangle weight before it is normalised, as the program computes it. -/
theorem tri (k : Fin 48) (o : Fin 96) :
    max (1 - FloatOps.absf (F := Ideal) (φ := FTy.f32) ((FloatOps.sitofp (F := Ideal) FTy.f32 (BitVec.ofNat 32 o.val)
        + Ideal.ofBits .f32 0x3F000000#32) * Ideal.ofBits .f32 0x3F000000#32 - Ideal.ofBits .f32 0x3F000000#32
        - FloatOps.sitofp (F := Ideal) FTy.f32 (BitVec.ofNat 32 k.val))) 0
      = (((tz k o : ℝ) / 4 : ℝ) : EReal) := by
  rw [sitofp_small _ (by omega), sitofp_small _ (by omega), c_half]
  rw [← EReal.coe_add, ← EReal.coe_mul, ← EReal.coe_sub, ← EReal.coe_sub, absf_coe, ← EReal.coe_one, ← EReal.coe_sub,
    ← EReal.coe_zero, ← coe_max]
  refine congrArg _ ?_
  unfold tz
  push_cast
  have hp : (0 : ℝ) ≤ 4 := by norm_num
  rw [← max_div_div_right hp, zero_div, sub_div, show (4 : ℝ) / 4 = 1 by norm_num]
  have e : |(2 * (o.val : ℝ) - 1) - 4 * (k.val : ℝ)| / 4 = |((o.val : ℝ) + 1 / 2) * (1 / 2) - 1 / 2 - (k.val : ℝ)| := by
    nth_rw 2 [show (4 : ℝ) = |4| by norm_num]
    rw [← abs_div]
    congr 1
    ring
  rw [e]

/-- The normalised weight. -/
theorem tri_norm (i : Fin 48) (o : Fin 96) :
    Ideal.div (((tz i o : ℝ) / 4 : ℝ) : EReal) (∑ k : Fin 48, (((tz k o : ℝ) / 4 : ℝ) : EReal)) = ((wt i o : ℝ) : EReal) := by
  rw [← coe_sum]
  have hs : (∑ k : Fin 48, (tz k o : ℝ)) ≠ 0 := by
    have h := tz_sum o
    have h' : (∑ k : Fin 48, tz k o) ≠ 0 := by rw [h]; split_ifs <;> norm_num
    exact_mod_cast h'
  have hn : (4 : ℝ) * tz i o = wz i o * ∑ k : Fin 48, (tz k o : ℝ) := by exact_mod_cast tz_norm i o
  rw [← Finset.sum_div]
  have hd : (∑ k : Fin 48, (tz k o : ℝ)) / 4 ≠ 0 := div_ne_zero hs (by norm_num)
  rw [Ideal.div_coe hd, ← EReal.coe_mul]
  unfold wt
  refine congrArg _ ?_
  field_simp
  linarith

variable (U : Valuation τ sig (Elt Ideal))

/-- The reference's table of weights. -/
theorem weights (i : Fin 48) (o : Fin 96) :
    (after (seg 0 28) U (Proc.devRef .tc main_v21) : FVec Ideal S48x96 .f32) (ix2 i o) = ((wt i o : ℝ) : EReal) := by
  after_reads_simp
  pointwise
  simp only [tri]
  exact tri_norm i o

section
variable (hw : ∀ i o, (U (Proc.devRef .tc main_v21) : FVec Ideal S48x96 .f32) (ix2 i o) = ((wt i o : ℝ) : EReal))
include hw

/-- The enlarged heat maps. -/
theorem heat (b : Fin 128) (n : Fin 17) (y x : Fin 96) :
    (after (seg 28 36) U (Proc.devRef .tc main_v23) : FVec Ideal S128x17x96x96 .f32) (ix4 b n y x)
      = res (fun h w => (U (Proc.devRef .tc main_arg0) : FVec Ideal S128x17x48x48 .f32) (ix4 b n h w)) y x := by
  after_reads_simp
  pointwise
  simp only [hw]
  rfl

/-- The enlarged centre map. -/
theorem centre (b : Fin 128) (y x : Fin 96) :
    (after (seg 28 36) U (Proc.devRef .tc main_v25) : FVec Ideal S128x1x96x96 .f32) (ix4 b (0 : Fin 1) y x)
      = res (fun h w => (U (Proc.devRef .tc main_arg1) : FVec Ideal S128x1x48x48 .f32) (ix4 b (0 : Fin 1) h w)) y x := by
  after_reads_simp
  pointwise
  simp only [hw]
  rfl

/-- The enlarged regression maps. -/
theorem regress (b : Fin 128) (n : Fin 34) (y x : Fin 96) :
    (after (seg 28 36) U (Proc.devRef .tc main_v27) : FVec Ideal S128x34x96x96 .f32) (ix4 b n y x)
      = res (fun h w => (U (Proc.devRef .tc main_arg2) : FVec Ideal S128x34x48x48 .f32) (ix4 b n h w)) y x := by
  after_reads_simp
  pointwise
  simp only [hw]
  rfl

/-- The enlarged offset maps. -/
theorem offset (b : Fin 128) (n : Fin 34) (y x : Fin 96) :
    (after (seg 28 36) U (Proc.devRef .tc main_v29) : FVec Ideal S128x34x96x96 .f32) (ix4 b n y x)
      = res (fun h w => (U (Proc.devRef .tc main_arg3) : FVec Ideal S128x34x48x48 .f32) (ix4 b n h w)) y x := by
  after_reads_simp
  pointwise
  simp only [hw]
  rfl

end

end Cert.ReferenceIdeal.Line
-- ==== Proof.RefArgmax.lean ====
module

public import proofs.«01_k».proof.Proof.RefLine
public import proofs.«01_k».proof.Proof.Scalars
public import Idealize.ShloMosaic.Lib.Pipeline.ValueKit

/-! The reference's two reductions to the place of a greatest value. -/

@[expose] public section

noncomputable section

open Idealize.ShloMosaic
open Cert.Joint

namespace Cert.ReferenceIdeal.Line

/-- The program's reduction step keeps the greater value and, on equal values, the lesser index. -/
theorem reducer_eq : (reducer_argmax_f32_i32 : Ideal .f32 × BitVec 32 → Ideal .f32 × BitVec 32 → Ideal .f32 × BitVec 32) = step := by
  funext a b
  obtain ⟨a1, a2⟩ := a
  obtain ⟨b1, b2⟩ := b
  have e2 : (FloatOps.cmpf (F := Ideal) (φ := .f32) .ogt a1 b1) = if b1 < a1 then 1#1 else 0#1 := by
    show Ideal.cmp _ _ _ = _
    unfold Ideal.cmp
    by_cases h : b1 < a1 <;> simp [h]
  have e3 : (FloatOps.cmpf (F := Ideal) (φ := .f32) .une a1 a1) = 0#1 := by
    show Ideal.cmp _ _ _ = _
    simp [Ideal.cmp]
  have e5 : (FloatOps.cmpf (F := Ideal) (φ := .f32) .oeq a1 b1) = if a1 = b1 then 1#1 else 0#1 := by
    show Ideal.cmp _ _ _ = _
    unfold Ideal.cmp
    by_cases h : a1 = b1 <;> simp [h]
  have e6 : IntOp.cmpi .slt a2 b2 = if a2.toInt < b2.toInt then 1#1 else 0#1 := by
    unfold IntOp.cmpi
    by_cases h : a2.toInt < b2.toInt <;> simp [BitVec.slt, h]
  unfold reducer_argmax_f32_i32 step
  dsimp only
  rw [e2, e3, e5, e6]
  by_cases h1 : b1 < a1
  · have h2 : a1 ≠ b1 := fun e => absurd h1 (by rw [e]; exact lt_irrefl _)
    simp [h1, h2, Scalar.select, IntOp.ori, IntOp.andi]
  · by_cases h2 : a1 = b1
    · by_cases h3 : a2.toInt < b2.toInt <;> simp [h1, h2, h3, Scalar.select, IntOp.ori, IntOp.andi]
    · simp [h1, h2, Scalar.select, IntOp.ori, IntOp.andi]

/-- The index the reduction leaves: that of an entry that no entry of its group beats and no equal
    entry precedes. If that entry is minus infinity, the start index must be its own. -/
theorem argmax_at {s t u : Shape} {axes : List (Fin s.rank)} (x : FVec Ideal s .f32) (y : IVec s 32) (ix : FVec Ideal u .f32)
    (iy : IVec u 32) (h : s.ReducesTo axes t) (hu : 0 < u.numel) (j : t.Idx) (q : s.Idx)
    (hi : ix (Shape.Idx.first hu) = ⊥) (hq : h.drop q = j)
    (hx : ∀ i, h.drop i = j → x i ≤ x q ∧ (x i = x q → (y q).toInt ≤ (y i).toInt))
    (hz : x q = ⊥ → iy (Shape.Idx.first hu) = y q) :
    (Host.argReduce reducer_argmax_f32_i32 x y ix iy h hu j).2 = y q := by
  rw [Ideal.argReduce_eq_reduce2, Host.reduce2_eq_foldl_fiber, reducer_eq, hi]
  have hm : ∀ k ∈ Host.argReduceFiber x y h j, ∃ i, h.drop i = j ∧ k = (x i, y i) := by
    intro k hk
    unfold Host.argReduceFiber at hk
    obtain ⟨n, hn, rfl⟩ := List.mem_map.1 hk
    exact ⟨_, of_decide_eq_true (List.mem_filter.1 hn).2, rfl⟩
  refine foldl_step_first _ (x q, y q) ?_ ?_ _ hz
  · unfold Host.argReduceFiber
    refine List.mem_map.2 ⟨s.rowMajor q, List.mem_filter.2 ⟨List.mem_finRange _, ?_⟩, ?_⟩
    · simpa using hq
    · simp
  · intro k hk
    obtain ⟨i, hi, rfl⟩ := hm k hk
    exact hx i hi

/-- Every flat position is a row and a column. -/
theorem flat (k : Fin 9216) : ∃ y x : Fin 96, k = ⟨num y x, num_lt y x⟩ :=
  ⟨⟨k.val / 96, by omega⟩, ⟨k.val % 96, by omega⟩, Fin.ext (by show k.val = 96 * (k.val / 96) + k.val % 96; omega)⟩

/-- The number of the first greatest place is at most that of an equal one. -/
theorem first_word (f : Fin 96 → Fin 96 → EReal) (y x : Fin 96) (e : f y x = f (topY f) (topX f)) :
    (BitVec.ofNat 32 (num (topY f) (topX f))).toInt ≤ (BitVec.ofNat 32 (num y x)).toInt := by
  rw [toInt_ofNat_small _ (num_lt _ _).le, toInt_ofNat_small _ (num_lt _ _).le]
  exact_mod_cast (first_top f y x).2 e

/-- On a map of minus infinities the first greatest place is the first. -/
theorem zero_word (f : Fin 96 → Fin 96 → EReal) (e : f (topY f) (topX f) = ⊥) :
    0#32 = BitVec.ofNat 32 (num (topY f) (topX f)) := by
  have h := first_top f 0 0
  have h0 : num (topY f) (topX f) ≤ 0 := h.2 (by rw [e]; exact le_bot_iff.1 (e ▸ h.1))
  rw [Nat.le_zero.1 h0]

/-- The reduction of rows of a map laid flat is the number of the map's first greatest place. -/
theorem argmax_rows (v : FVec Ideal S128x9216 .f32) (ix : FVec Ideal S_ .f32) (iy : IVec S_ 32) (h : S128x9216.ReducesTo [1] S128)
    (hu : 0 < S_.numel) (hi : ix (Shape.Idx.first hu) = ⊥) (b : Fin 128) (f : Fin 96 → Fin 96 → EReal)
    (hf : ∀ y x, v (ix2 b ⟨num y x, num_lt y x⟩) = f y x) (hz : iy (Shape.Idx.first hu) = 0#32) :
    (Host.argReduce reducer_argmax_f32_i32 v (iotaInDim S128x9216 32 1) ix iy h hu (ix1 b)).2
      = BitVec.ofNat 32 (num (topY f) (topX f)) := by
  refine (argmax_at v _ ix iy h hu (ix1 b) (ix2 b ⟨num (topY f) (topX f), num_lt _ _⟩) hi ?_ ?_ fun e => ?_).trans rfl
  · funext a; exact Fin.ext (by fin_cases a; rfl)
  · intro i hd
    obtain ⟨b', k, rfl⟩ : ∃ (b' : Fin 128) (k : Fin 9216), i = ix2 b' k := ⟨i 0, i 1, by blk_ext⟩
    obtain ⟨y, x, rfl⟩ := flat k
    have e : b' = b := Fin.ext (congrArg (fun j : S128.Idx => (j 0).val) hd)
    subst e
    rw [hf, hf]
    exact ⟨(first_top f y x).1, first_word f y x⟩
  · rw [hf] at e
    exact hz.trans (zero_word f e)

/-- The same for a joint's map. -/
theorem argmax_joints (v : FVec Ideal S128x17x9216 .f32) (ix : FVec Ideal S_ .f32) (iy : IVec S_ 32) (h : S128x17x9216.ReducesTo [2] S128x17)
    (hu : 0 < S_.numel) (hi : ix (Shape.Idx.first hu) = ⊥) (b : Fin 128) (n : Fin 17) (f : Fin 96 → Fin 96 → EReal)
    (hf : ∀ y x, v (ix3 b n ⟨num y x, num_lt y x⟩) = f y x) (hz : iy (Shape.Idx.first hu) = 0#32) :
    (Host.argReduce reducer_argmax_f32_i32 v (iotaInDim S128x17x9216 32 2) ix iy h hu (ix2 b n)).2
      = BitVec.ofNat 32 (num (topY f) (topX f)) := by
  refine (argmax_at v _ ix iy h hu (ix2 b n) (ix3 b n ⟨num (topY f) (topX f), num_lt _ _⟩) hi ?_ ?_ fun e => ?_).trans rfl
  · funext a; exact Fin.ext (by fin_cases a <;> rfl)
  · intro i hd
    obtain ⟨b', n', k, rfl⟩ : ∃ (b' : Fin 128) (n' : Fin 17) (k : Fin 9216), i = ix3 b' n' k := ⟨i 0, i 1, i 2, by blk_ext⟩
    obtain ⟨y, x, rfl⟩ := flat k
    have e : b' = b := Fin.ext (congrArg (fun j : S128x17.Idx => (j 0).val) hd)
    have e' : n' = n := Fin.ext (congrArg (fun j : S128x17.Idx => (j 1).val) hd)
    subst e e'
    rw [hf, hf]
    exact ⟨(first_top f y x).1, first_word f y x⟩
  · rw [hf] at e
    exact hz.trans (zero_word f e)

/-! ### Row and column of a number, as the program computes them -/

/-- The quotient by 96, held in 0..95, is the row. -/
theorem row_word (y x : Fin 96) :
    IntOp.minsi 95#32 (IntOp.maxsi 0#32 (IntOp.divsi .host (BitVec.ofNat 32 (num y x)) 96#32)) = BitVec.ofNat 32 y.val := by
  have e : IntOp.divsi .host (BitVec.ofNat 32 (num y x)) 96#32 = BitVec.ofNat 32 y.val := by
    unfold IntOp.divsi
    rw [if_neg]
    · exact (by decide +kernel : ∀ y x : Fin 96, (BitVec.ofNat 32 (96 * y.val + x.val)).sdiv 96#32 = BitVec.ofNat 32 y.val) y x
    · simp [IntOp.SDivCorner]
  rw [e]
  exact (by decide +kernel : ∀ y : Fin 96, IntOp.minsi 95#32 (IntOp.maxsi 0#32 (BitVec.ofNat 32 y.val)) = BitVec.ofNat 32 y.val) y

/-- The remainder by 96, held in 0..95, is the column. -/
theorem col_word (y x : Fin 96) :
    IntOp.minsi 95#32 (IntOp.maxsi 0#32 (IntOp.remsi .host (BitVec.ofNat 32 (num y x)) 96#32)) = BitVec.ofNat 32 x.val := by
  have e : IntOp.remsi .host (BitVec.ofNat 32 (num y x)) 96#32 = BitVec.ofNat 32 x.val := by
    unfold IntOp.remsi
    rw [if_neg]
    · exact (by decide +kernel : ∀ y x : Fin 96, (BitVec.ofNat 32 (96 * y.val + x.val)).srem 96#32 = BitVec.ofNat 32 x.val) y x
    · simp [IntOp.SDivCorner]
  rw [e]
  exact (by decide +kernel : ∀ y : Fin 96, IntOp.minsi 95#32 (IntOp.maxsi 0#32 (BitVec.ofNat 32 y.val)) = BitVec.ofNat 32 y.val) x

end Cert.ReferenceIdeal.Line
-- ==== Proof.RefGather.lean ====
module

public import proofs.«01_k».proof.Proof.RefLine
public import proofs.«01_k».proof.Proof.Scalars
public import Idealize.ShloMosaic.Lib.Pipeline.ValueKit

/-! The reference's three picks out of an enlarged map, at places inside the map. -/

@[expose] public section

noncomputable section

open Idealize.ShloMosaic
open Cert.Joint

namespace Cert.ReferenceIdeal.Line

/-- Where a pick starts on an axis its index vector gives. -/
theorem start_at {s si t : Shape} (d : GatherDims s si t) (j : t.Idx) (I : IVec si 32) (a : Fin s.rank) (ha : a ∈ d.startIndexMap)
    (p : si.Idx) (hp : d.siIdx j ⟨d.startIndexMap.idxOf a, List.idxOf_lt_length_iff.2 ha⟩ = p) (v : ℕ) (hv : v ≤ 9216)
    (hI : I p = BitVec.ofNat 32 v) (hle : v ≤ s.size a - d.sliceSizes a) : d.start j I a = v := by
  unfold GatherDims.start
  rw [dif_pos ha, hp, hI, toInt_ofNat_small v hv, Int.toNat_natCast, min_eq_left hle]

/-- Where a pick starts on an axis its index vector does not give. -/
theorem start_off {s si t : Shape} (d : GatherDims s si t) (j : t.Idx) (I : IVec si 32) (a : Fin s.rank) (ha : a ∉ d.startIndexMap) :
    d.start j I a = 0 := by
  unfold GatherDims.start
  rw [dif_neg ha]

/-- All channels at one place of each picture. -/
theorem pick_channels (M : FVec Ideal S128x34x96x96 .f32) (I : IVec S128x3 32) (b : Fin 128) (k : Fin 34) (y x : Fin 96)
    (h0 : I (ix2 b (0 : Fin 3)) = BitVec.ofNat 32 b.val) (h1 : I (ix2 b (1 : Fin 3)) = BitVec.ofNat 32 y.val)
    (h2 : I (ix2 b (2 : Fin 3)) = BitVec.ofNat 32 x.val) :
    Host.gather gather_S128x34x96x96_S128x3_S128x34_1_023_n_n_023_1_13411 M I (ix2 b k) = M (ix4 b k y x) := by
  unfold Host.gather
  refine congrArg M (funext fun a => Fin.ext ?_)
  unfold GatherDims.operandIdx
  match a with
  | ⟨0, _⟩ => exact congrArg (fun z => z + 0 + 0) (start_at gather_S128x34x96x96_S128x3_S128x34_1_023_n_n_023_1_13411 _ I 0 (by decide) (ix2 b 0) (by funext c; match c with | ⟨0, _⟩ => rfl | ⟨1, _⟩ => rfl) b.val (by omega) h0 (by show b.val ≤ 128 - 1; omega))
  | ⟨1, _⟩ => exact (congrArg (fun z => z + 0 + k.val) (start_off gather_S128x34x96x96_S128x3_S128x34_1_023_n_n_023_1_13411 _ I 1 (by decide))).trans (Nat.zero_add _)
  | ⟨2, _⟩ => exact congrArg (fun z => z + 0 + 0) (start_at gather_S128x34x96x96_S128x3_S128x34_1_023_n_n_023_1_13411 _ I 2 (by decide) (ix2 b 1) (by funext c; match c with | ⟨0, _⟩ => rfl | ⟨1, _⟩ => rfl) y.val (by omega) h1 (by show y.val ≤ 96 - 1; omega))
  | ⟨3, _⟩ => exact congrArg (fun z => z + 0 + 0) (start_at gather_S128x34x96x96_S128x3_S128x34_1_023_n_n_023_1_13411 _ I 3 (by decide) (ix2 b 2) (by funext c; match c with | ⟨0, _⟩ => rfl | ⟨1, _⟩ => rfl) x.val (by omega) h2 (by show x.val ≤ 96 - 1; omega))

/-- Both offset channels of a joint at its place. -/
theorem pick_pair (M : FVec Ideal S128x17x2x96x96 .f32) (I : IVec S128x17x4 32) (b : Fin 128) (n : Fin 17) (k : Fin 2) (y x : Fin 96)
    (h0 : I (ix3 b n (0 : Fin 4)) = BitVec.ofNat 32 b.val) (h1 : I (ix3 b n (1 : Fin 4)) = BitVec.ofNat 32 n.val)
    (h2 : I (ix3 b n (2 : Fin 4)) = BitVec.ofNat 32 y.val) (h3 : I (ix3 b n (3 : Fin 4)) = BitVec.ofNat 32 x.val) :
    Host.gather gather_S128x17x2x96x96_S128x17x4_S128x17x2_2_0134_n_n_0134_2_11211 M I (ix3 b n k) = M (ix5 b n k y x) := by
  unfold Host.gather
  refine congrArg M (funext fun a => Fin.ext ?_)
  unfold GatherDims.operandIdx
  match a with
  | ⟨0, _⟩ => exact congrArg (fun z => z + 0 + 0) (start_at gather_S128x17x2x96x96_S128x17x4_S128x17x2_2_0134_n_n_0134_2_11211 _ I 0 (by decide) (ix3 b n 0) (by funext c; match c with | ⟨0, _⟩ => rfl | ⟨1, _⟩ => rfl | ⟨2, _⟩ => rfl) b.val (by omega) h0 (by show b.val ≤ 128 - 1; omega))
  | ⟨1, _⟩ => exact congrArg (fun z => z + 0 + 0) (start_at gather_S128x17x2x96x96_S128x17x4_S128x17x2_2_0134_n_n_0134_2_11211 _ I 1 (by decide) (ix3 b n 1) (by funext c; match c with | ⟨0, _⟩ => rfl | ⟨1, _⟩ => rfl | ⟨2, _⟩ => rfl) n.val (by omega) h1 (by show n.val ≤ 17 - 1; omega))
  | ⟨2, _⟩ => exact (congrArg (fun z => z + 0 + k.val) (start_off gather_S128x17x2x96x96_S128x17x4_S128x17x2_2_0134_n_n_0134_2_11211 _ I 2 (by decide))).trans (Nat.zero_add _)
  | ⟨3, _⟩ => exact congrArg (fun z => z + 0 + 0) (start_at gather_S128x17x2x96x96_S128x17x4_S128x17x2_2_0134_n_n_0134_2_11211 _ I 3 (by decide) (ix3 b n 2) (by funext c; match c with | ⟨0, _⟩ => rfl | ⟨1, _⟩ => rfl | ⟨2, _⟩ => rfl) y.val (by omega) h2 (by show y.val ≤ 96 - 1; omega))
  | ⟨4, _⟩ => exact congrArg (fun z => z + 0 + 0) (start_at gather_S128x17x2x96x96_S128x17x4_S128x17x2_2_0134_n_n_0134_2_11211 _ I 4 (by decide) (ix3 b n 3) (by funext c; match c with | ⟨0, _⟩ => rfl | ⟨1, _⟩ => rfl | ⟨2, _⟩ => rfl) x.val (by omega) h3 (by show x.val ≤ 96 - 1; omega))

/-- A joint's heat map at its place. -/
theorem pick_one (M : FVec Ideal S128x17x96x96 .f32) (I : IVec S128x17x4 32) (b : Fin 128) (n : Fin 17) (y x : Fin 96)
    (h0 : I (ix3 b n (0 : Fin 4)) = BitVec.ofNat 32 b.val) (h1 : I (ix3 b n (1 : Fin 4)) = BitVec.ofNat 32 n.val)
    (h2 : I (ix3 b n (2 : Fin 4)) = BitVec.ofNat 32 y.val) (h3 : I (ix3 b n (3 : Fin 4)) = BitVec.ofNat 32 x.val) :
    Host.gather gather_S128x17x96x96_S128x17x4_S128x17_n_0123_n_n_0123_2_1111 M I (ix2 b n) = M (ix4 b n y x) := by
  unfold Host.gather
  refine congrArg M (funext fun a => Fin.ext ?_)
  unfold GatherDims.operandIdx
  match a with
  | ⟨0, _⟩ => exact congrArg (fun z => z + 0 + 0) (start_at gather_S128x17x96x96_S128x17x4_S128x17_n_0123_n_n_0123_2_1111 _ I 0 (by decide) (ix3 b n 0) (by funext c; match c with | ⟨0, _⟩ => rfl | ⟨1, _⟩ => rfl | ⟨2, _⟩ => rfl) b.val (by omega) h0 (by show b.val ≤ 128 - 1; omega))
  | ⟨1, _⟩ => exact congrArg (fun z => z + 0 + 0) (start_at gather_S128x17x96x96_S128x17x4_S128x17_n_0123_n_n_0123_2_1111 _ I 1 (by decide) (ix3 b n 1) (by funext c; match c with | ⟨0, _⟩ => rfl | ⟨1, _⟩ => rfl | ⟨2, _⟩ => rfl) n.val (by omega) h1 (by show n.val ≤ 17 - 1; omega))
  | ⟨2, _⟩ => exact congrArg (fun z => z + 0 + 0) (start_at gather_S128x17x96x96_S128x17x4_S128x17_n_0123_n_n_0123_2_1111 _ I 2 (by decide) (ix3 b n 2) (by funext c; match c with | ⟨0, _⟩ => rfl | ⟨1, _⟩ => rfl | ⟨2, _⟩ => rfl) y.val (by omega) h2 (by show y.val ≤ 96 - 1; omega))
  | ⟨3, _⟩ => exact congrArg (fun z => z + 0 + 0) (start_at gather_S128x17x96x96_S128x17x4_S128x17_n_0123_n_n_0123_2_1111 _ I 3 (by decide) (ix3 b n 3) (by funext c; match c with | ⟨0, _⟩ => rfl | ⟨1, _⟩ => rfl | ⟨2, _⟩ => rfl) x.val (by omega) h3 (by show x.val ≤ 96 - 1; omega))

end Cert.ReferenceIdeal.Line
-- ==== Proof.RefCentre.lean ====
module

public import proofs.«01_k».proof.Proof.RefMaps
public import proofs.«01_k».proof.Proof.RefArgmax
public import proofs.«01_k».proof.Proof.RefGather
public import proofs.«01_k».proof.Proof.Spec

/-! The reference's centre of each picture and the regressed places of its joints. -/

@[expose] public section

set_option maxRecDepth 16384

noncomputable section

open Idealize.ShloMosaic Idealize.ShloMosaic.TcCoe Idealize.SL.Sem Idealize.ShloMosaic.StableHlo
open Cert.ReferenceIdeal Cert.Joint

namespace Cert.ReferenceIdeal.Line

variable (U : Valuation τ sig (Elt Ideal))

/-- The number of the centre. -/
theorem centre_number (b : Fin 128) (f : Fin 96 → Fin 96 → EReal)
    (hf : ∀ y x, (U (Proc.devRef .tc main_v25) : FVec Ideal S128x1x96x96 .f32) (ix4 b (0 : Fin 1) y x) = f y x) :
    (show IVec S128 32 from after (seg 36 42) U (Proc.devRef .tc main_v31)) (ix1 b)
      = BitVec.ofNat 32 (num (topY f) (topX f)) := by
  after_reads_simp
  simp only [TRef.ofBuf_toBuf]
  generalize hX : (fun i => shapeCast _ _ _ i) = X
  have hX' : ∀ y x : Fin 96, (X : FVec Ideal S128x9216 .f32) (ix2 b ⟨num y x, num_lt y x⟩) = f y x := by
    intro y x
    rw [← hf, ← hX]
    pointwise
    have := y.isLt
    have := x.isLt
    congr 2
    · exact Fin.ext (by show (96 * y.val + x.val) / 96 = y.val; omega)
    · exact Fin.ext (by show (96 * y.val + x.val) % 96 = x.val; omega)
  clear hX
  generalize hY : TRef.ofBuf _ _ = Y
  have hY' : ∀ y x : Fin 96, (Y : FVec Ideal S128x9216 .f32) (ix2 b ⟨num y x, num_lt y x⟩) = f y x := by
    rw [← hY]
    exact hX'
  clear hY
  generalize hG : (fun j => (Host.argReduce (reducer_argmax_f32_i32 : Ideal .f32 × BitVec 32 → _) _ _ _ _ _ _ j).2) = G
  have hG' := fun j => congrFun hG j
  clear hG
  unfold TRef.toBuf
  erw [cast_eq]
  rw [← hG']
  exact argmax_rows Y _ _ _ _ c_bot b f hY' rfl

/-- The row of the centre. -/
theorem centre_row (b : Fin 128) (y x : Fin 96)
    (h : (U (Proc.devRef .tc main_v31) : IVec S128 32) (ix1 b) = BitVec.ofNat 32 (num y x)) :
    (show IVec S128 32 from after (seg 42 64) U (Proc.devRef .tc main_v34)) (ix1 b) = BitVec.ofNat 32 y.val := by
  after_reads_simp
  simp only [TRef.ofBuf_toBuf]
  unfold TRef.toBuf TRef.ofBuf
  repeat erw [cast_eq]
  pointwise
  refine Eq.trans ?_ (row_word y x)
  rw [← h]
  rfl

/-- The column of the centre. -/
theorem centre_col (b : Fin 128) (y x : Fin 96)
    (h : (U (Proc.devRef .tc main_v31) : IVec S128 32) (ix1 b) = BitVec.ofNat 32 (num y x)) :
    (show IVec S128 32 from after (seg 42 64) U (Proc.devRef .tc main_v37)) (ix1 b) = BitVec.ofNat 32 x.val := by
  after_reads_simp
  simp only [TRef.ofBuf_toBuf]
  unfold TRef.toBuf TRef.ofBuf
  repeat erw [cast_eq]
  pointwise
  refine Eq.trans ?_ (col_word y x)
  rw [← h]
  rfl

/-- The row of column coordinates. -/
theorem grid_x (x : Fin 96) :
    (after (seg 64 106) U (Proc.devRef .tc main_v39) : FVec Ideal S1x1x1x96 .f32) (ix4 (0 : Fin 1) (0 : Fin 1) (0 : Fin 1) x)
      = ((x.val : ℝ) : EReal) := by
  after_reads_simp
  pointwise
  exact sitofp_small _ (by omega)

/-- The column of row coordinates. -/
theorem grid_y (y : Fin 96) :
    (after (seg 64 106) U (Proc.devRef .tc main_v41) : FVec Ideal S1x1x96x1 .f32) (ix4 (0 : Fin 1) (0 : Fin 1) y (0 : Fin 1))
      = ((y.val : ℝ) : EReal) := by
  after_reads_simp
  pointwise
  exact sitofp_small _ (by omega)

/-- The picture numbers. -/
theorem pictures (b : Fin 128) :
    (after (seg 64 106) U (Proc.devRef .tc main_v42) : IVec S128 32) (ix1 b) = BitVec.ofNat 32 b.val := by
  after_reads_simp
  pointwise

section
variable (b : Fin 128) (n : Fin 17) (y x : Fin 96) (M : FVec Ideal S128x34x96x96 .f32)
  (hM : (U (Proc.devRef .tc main_v27) : FVec Ideal S128x34x96x96 .f32) = M)
  (hy : (U (Proc.devRef .tc main_v34) : IVec S128 32) (ix1 b) = BitVec.ofNat 32 y.val)
  (hx : (U (Proc.devRef .tc main_v37) : IVec S128 32) (ix1 b) = BitVec.ofNat 32 x.val)
include hM hy hx

/-- The regressed column. -/
theorem regress_x :
    (show FVec Ideal S128x17 .f32 from after (seg 64 106) U (Proc.devRef .tc main_v57)) (ix2 b n)
      = min ((95 : ℝ) : EReal) (max 0 (((x.val : ℝ) : EReal)
          + (M (ix4 b (chX n) y x) + ((1 / 2 : ℝ) : EReal)))) := by
  after_reads_simp
  simp only [TRef.ofBuf_toBuf]
  unfold TRef.toBuf TRef.ofBuf
  repeat erw [cast_eq]
  pointwise
  rw [pick_channels _ _ b _ y x ?_ ?_ ?_]
  · rw [hx, sitofp_small _ (by omega), c_half, hM]
    show min (Ideal.ofBits .f32 0x42BE0000#32) (max (Ideal.ofBits .f32 0x00000000#32) _) = _
    rw [c_95, c_zero]
    rfl
  all_goals
    pointwise
    after_reads_simp
    pointwise
  · exact hy
  · exact hx

/-- The regressed row. -/
theorem regress_y :
    (show FVec Ideal S128x17 .f32 from after (seg 64 106) U (Proc.devRef .tc main_v64)) (ix2 b n)
      = min ((95 : ℝ) : EReal) (max 0 (((y.val : ℝ) : EReal)
          + (M (ix4 b (chY n) y x) + ((1 / 2 : ℝ) : EReal)))) := by
  after_reads_simp
  simp only [TRef.ofBuf_toBuf]
  unfold TRef.toBuf TRef.ofBuf
  repeat erw [cast_eq]
  pointwise
  rw [pick_channels _ _ b _ y x ?_ ?_ ?_]
  · rw [hy, sitofp_small _ (by omega), c_half, hM]
    show min (Ideal.ofBits .f32 0x42BE0000#32) (max (Ideal.ofBits .f32 0x00000000#32) _) = _
    rw [c_95, c_zero]
    rfl
  all_goals
    pointwise
    after_reads_simp
    pointwise
  · exact hy
  · exact hx

end

end Cert.ReferenceIdeal.Line
-- ==== Proof.RefJoint.lean ====
module

public import proofs.«01_k».proof.Proof.RefMaps
public import proofs.«01_k».proof.Proof.RefArgmax
public import proofs.«01_k».proof.Proof.RefGather
public import proofs.«01_k».proof.Proof.Spec

/-! The reference's places of the joints and its result. -/

@[expose] public section

set_option maxRecDepth 16384

noncomputable section

open Idealize.ShloMosaic Idealize.ShloMosaic.TcCoe Idealize.SL.Sem Idealize.ShloMosaic.StableHlo
open Cert.ReferenceIdeal Cert.Joint

namespace Cert.ReferenceIdeal.Line

/-- The number the weakened map is divided by. -/
def scale : EReal := Ideal.ofBits .f32 0x3FE66666#32

/-- The heat map weakened as the reference writes it. -/
def far (m : Fin 48 → Fin 48 → EReal) (gy gx : EReal) (y x : Fin 96) : EReal :=
  Ideal.div (Ideal.div (res m y x) (Ideal.sqrt (Joint.dist gy gx y x))) scale

/-- On real places, the two weakened maps have the same first greatest place: they differ by a positive real factor. -/
theorem far_top (m : Fin 48 → Fin 48 → EReal) (gy gx : ℝ) :
    topY (far m gy gx) = topY (near m gy gx) ∧ topX (far m gy gx) = topX (near m gy gx) := by
  obtain ⟨e, he, hc⟩ := c_scale
  have hf : ∀ y x, far m gy gx y x = near m gy gx y x * ((1 / e : ℝ) : EReal) := by
    intro y x
    obtain ⟨d, hd, hdd⟩ := dist_real gy gx y x
    unfold far near scale
    rw [hdd, hc, Ideal.sqrt_coe, Ideal.rsqrt_coe, if_neg (not_lt.2 hd.le), if_neg (not_lt.2 hd.le), if_neg hd.ne',
      Ideal.div_coe (Real.sqrt_pos.2 hd).ne', Ideal.div_coe he.ne', one_div (Real.sqrt d)]
  refine top_congr fun y x y' x' => ?_
  rw [hf, hf]
  exact mul_real_le _ _ _ (by positivity)

variable (U : Valuation τ sig (Elt Ideal))

/-- The weakened map. -/
theorem weakened (b : Fin 128) (n : Fin 17) (m : Fin 48 → Fin 48 → EReal) (gy gx : EReal)
    (hm : ∀ y x, (U (Proc.devRef .tc main_v23) : FVec Ideal S128x17x96x96 .f32) (ix4 b n y x) = res m y x)
    (hx : (U (Proc.devRef .tc main_v57) : FVec Ideal S128x17 .f32) (ix2 b n) = gx)
    (hy : (U (Proc.devRef .tc main_v64) : FVec Ideal S128x17 .f32) (ix2 b n) = gy)
    (h39 : ∀ x : Fin 96, (U (Proc.devRef .tc main_v39) : FVec Ideal S1x1x1x96 .f32) (ix4 (0 : Fin 1) (0 : Fin 1) (0 : Fin 1) x) = ((x.val : ℝ) : EReal))
    (h41 : ∀ y : Fin 96, (U (Proc.devRef .tc main_v41) : FVec Ideal S1x1x96x1 .f32) (ix4 (0 : Fin 1) (0 : Fin 1) y (0 : Fin 1)) = ((y.val : ℝ) : EReal))
    (y x : Fin 96) :
    (after (seg 106 127) U (Proc.devRef .tc main_v83) : FVec Ideal S128x17x96x96 .f32) (ix4 b n y x) = far m gy gx y x := by
  after_reads_simp
  pointwise
  rw [hm, hx, hy, h39, h41]
  unfold far Joint.dist scale eps
  rw [add_comm ((((x.val : ℝ) : EReal) - gx) * _), add_right_comm]

/-- The number of a joint's place. -/
theorem joint_number (b : Fin 128) (n : Fin 17) (f : Fin 96 → Fin 96 → EReal)
    (hf : ∀ y x, (U (Proc.devRef .tc main_v83) : FVec Ideal S128x17x96x96 .f32) (ix4 b n y x) = f y x) :
    (show IVec S128x17 32 from after (seg 127 133) U (Proc.devRef .tc main_v85)) (ix2 b n)
      = BitVec.ofNat 32 (num (topY f) (topX f)) := by
  after_reads_simp
  simp only [TRef.ofBuf_toBuf]
  generalize hX : (fun i => shapeCast _ _ _ i) = X
  have hX' : ∀ y x : Fin 96, (X : FVec Ideal S128x17x9216 .f32) (ix3 b n ⟨num y x, num_lt y x⟩) = f y x := by
    intro y x
    rw [← hf, ← hX]
    pointwise
    have := y.isLt
    have := x.isLt
    congr 2
    · exact Fin.ext (by show (96 * y.val + x.val) / 96 = y.val; omega)
    · exact Fin.ext (by show (96 * y.val + x.val) % 96 = x.val; omega)
  clear hX
  generalize hY : TRef.ofBuf _ _ = Y
  have hY' : ∀ y x : Fin 96, (Y : FVec Ideal S128x17x9216 .f32) (ix3 b n ⟨num y x, num_lt y x⟩) = f y x := by
    rw [← hY]
    exact hX'
  clear hY
  generalize hG : (fun j => (Host.argReduce (reducer_argmax_f32_i32 : Ideal .f32 × BitVec 32 → _) _ _ _ _ _ _ j).2) = G
  have hG' := fun j => congrFun hG j
  clear hG
  unfold TRef.toBuf
  erw [cast_eq]
  rw [← hG']
  exact argmax_joints Y _ _ _ _ c_bot b n f hY' rfl

/-- The row of a joint. -/
theorem joint_row (b : Fin 128) (n : Fin 17) (y x : Fin 96)
    (h : (U (Proc.devRef .tc main_v85) : IVec S128x17 32) (ix2 b n) = BitVec.ofNat 32 (num y x)) :
    (show IVec S128x17 32 from after (seg 133 155) U (Proc.devRef .tc main_v88)) (ix2 b n) = BitVec.ofNat 32 y.val := by
  after_reads_simp
  simp only [TRef.ofBuf_toBuf]
  unfold TRef.toBuf TRef.ofBuf
  repeat erw [cast_eq]
  pointwise
  refine Eq.trans ?_ (row_word y x)
  rw [← h]
  rfl

/-- The column of a joint. -/
theorem joint_col (b : Fin 128) (n : Fin 17) (y x : Fin 96)
    (h : (U (Proc.devRef .tc main_v85) : IVec S128x17 32) (ix2 b n) = BitVec.ofNat 32 (num y x)) :
    (show IVec S128x17 32 from after (seg 133 155) U (Proc.devRef .tc main_v91)) (ix2 b n) = BitVec.ofNat 32 x.val := by
  after_reads_simp
  simp only [TRef.ofBuf_toBuf]
  unfold TRef.toBuf TRef.ofBuf
  repeat erw [cast_eq]
  pointwise
  refine Eq.trans ?_ (col_word y x)
  rw [← h]
  rfl

section
variable (b : Fin 128) (q : Fin 51) (y x : Fin 96) (hq : q.val / 3 < 17)
  (hb : (U (Proc.devRef .tc main_v42) : IVec S128 32) (ix1 b) = BitVec.ofNat 32 b.val)
  (hy : (U (Proc.devRef .tc main_v88) : IVec S128x17 32) (ix2 b ⟨q.val / 3, hq⟩) = BitVec.ofNat 32 y.val)
  (hx : (U (Proc.devRef .tc main_v91) : IVec S128x17 32) (ix2 b ⟨q.val / 3, hq⟩) = BitVec.ofNat 32 x.val)
  (m o₀ o₁ : Fin 48 → Fin 48 → EReal)
  (hm : ∀ y x, (U (Proc.devRef .tc main_v23) : FVec Ideal S128x17x96x96 .f32) (ix4 b (⟨q.val / 3, hq⟩ : Fin 17) y x) = res m y x)
  (h0 : ∀ y x, (U (Proc.devRef .tc main_v29) : FVec Ideal S128x34x96x96 .f32) (ix4 b (chX ⟨q.val / 3, hq⟩) y x) = res o₀ y x)
  (h1 : ∀ y x, (U (Proc.devRef .tc main_v29) : FVec Ideal S128x34x96x96 .f32) (ix4 b (chY ⟨q.val / 3, hq⟩) y x) = res o₁ y x)
include hb hy hx hm h0 h1

/-- An entry of the result: a joint's two coordinates, or its score. -/
theorem result :
    (after (seg 155 194) U (Proc.devRef .tc main_v128) : FVec Ideal S128x51 .f32) (ix2 b q)
      = ![coord x y x o₀, coord y y x o₁, res m y x] ⟨q.val % 3, by omega⟩ := by
  after_reads_simp
  pointwise
  after_reads_simp
  pointwise
  by_cases c0 : q.val % 3 < 1
  · refine (dif_pos c0).trans (Eq.trans (b := coord x y x o₀) ?_ (congrArg ![coord x y x o₀, coord y y x o₁, res m y x]
      (show (0 : Fin 3) = ⟨q.val % 3, by omega⟩ from Fin.ext (by show 0 = q.val % 3; omega))))
    unfold coord
    rw [pick_pair _ _ b ⟨q.val / 3, hq⟩ 0 y x ?_ ?_ ?_ ?_]
    · rw [hx, sitofp_small _ (by omega), c_96, ← h0]
      rfl
    all_goals
      pointwise
      after_reads_simp
      pointwise
    · exact hb
    · exact hy
    · exact hx
  refine (dif_neg c0).trans ?_
  by_cases c1 : q.val % 3 - 1 < 1
  · refine (dif_pos c1).trans (Eq.trans (b := coord y y x o₁) ?_ (congrArg ![coord x y x o₀, coord y y x o₁, res m y x]
      (show (1 : Fin 3) = ⟨q.val % 3, by omega⟩ from Fin.ext (by show 1 = q.val % 3; omega))))
    unfold coord
    rw [pick_pair _ _ b ⟨q.val / 3, hq⟩ 1 y x ?_ ?_ ?_ ?_]
    · rw [hy, sitofp_small _ (by omega), c_96, ← h1]
      rfl
    all_goals
      pointwise
      after_reads_simp
      pointwise
    · exact hb
    · exact hy
    · exact hx
  · refine (dif_neg c1).trans (Eq.trans (b := res m y x) ?_ (congrArg ![coord x y x o₀, coord y y x o₁, res m y x]
      (show (2 : Fin 3) = ⟨q.val % 3, by omega⟩ from Fin.ext (by show 2 = q.val % 3; omega))))
    rw [pick_one _ _ b ⟨q.val / 3, hq⟩ y x ?_ ?_ ?_ ?_]
    · exact hm y x
    all_goals
      pointwise
      after_reads_simp
      pointwise
    · exact hb
    · exact hy
    · exact hx

end

end Cert.ReferenceIdeal.Line
-- ==== Proof.RefRun.lean ====
module

public import proofs.«01_k».proof.Proof.RefCentre
public import proofs.«01_k».proof.Proof.RefJoint

/-! The reference's run: what its result buffer holds at the end. -/

@[expose] public section

set_option maxRecDepth 16384

noncomputable section

open Idealize.ShloMosaic Idealize.ShloMosaic.TcCoe Idealize.SL.Sem Idealize.ShloMosaic.StableHlo
open Cert.ReferenceIdeal Cert.Joint

namespace Cert.ReferenceIdeal.Line

/-! ### The operations cut into stretches -/

/-- Two lines of operations one after the other. -/
theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The contents after the first operations. -/
def st (V : Valuation τ sig (Elt Ideal)) (k : ℕ) : Valuation τ sig (Elt Ideal) := after (ops.take k) V

/-- A stretch takes the contents at its beginning to those at its end. -/
theorem st_seg (V : Valuation τ sig (Elt Ideal)) (a b : ℕ) (h : a ≤ b) : st V b = after (seg a b) (st V a) := by
  unfold st seg
  rw [← after_two]
  congr 1
  have e : ops.take a = (ops.take b).take a := by rw [List.take_take, min_eq_left h]
  rw [e, List.take_append_drop]

/-- The last stretch ends the program. -/
theorem st_all (V : Valuation τ sig (Elt Ideal)) : st V 194 = after ops V := by
  unfold st
  rw [List.take_of_length_le]
  unfold ops opsOf
  simp

/-! ### What a stretch leaves alone -/

section
variable (U : Valuation τ sig (Elt Ideal))

/-- The weights leave the arguments alone. -/
theorem keepA :
    after (seg 0 28) U (Proc.devRef .tc main_arg0) = U (Proc.devRef .tc main_arg0)
    ∧ after (seg 0 28) U (Proc.devRef .tc main_arg1) = U (Proc.devRef .tc main_arg1)
    ∧ after (seg 0 28) U (Proc.devRef .tc main_arg2) = U (Proc.devRef .tc main_arg2)
    ∧ after (seg 0 28) U (Proc.devRef .tc main_arg3) = U (Proc.devRef .tc main_arg3) := by
  refine ⟨?_, ?_, ?_, ?_⟩ <;> after_reads_simp

/-- The search for the centre leaves the enlarged maps alone. -/
theorem keepC :
    after (seg 36 42) U (Proc.devRef .tc main_v23) = U (Proc.devRef .tc main_v23)
    ∧ after (seg 36 42) U (Proc.devRef .tc main_v27) = U (Proc.devRef .tc main_v27)
    ∧ after (seg 36 42) U (Proc.devRef .tc main_v29) = U (Proc.devRef .tc main_v29) := by
  refine ⟨?_, ?_, ?_⟩ <;> after_reads_simp

/-- So do its row and column. -/
theorem keepD :
    after (seg 42 64) U (Proc.devRef .tc main_v23) = U (Proc.devRef .tc main_v23)
    ∧ after (seg 42 64) U (Proc.devRef .tc main_v27) = U (Proc.devRef .tc main_v27)
    ∧ after (seg 42 64) U (Proc.devRef .tc main_v29) = U (Proc.devRef .tc main_v29) := by
  refine ⟨?_, ?_, ?_⟩ <;> after_reads_simp

/-- So does the regression. -/
theorem keepE :
    after (seg 64 106) U (Proc.devRef .tc main_v23) = U (Proc.devRef .tc main_v23)
    ∧ after (seg 64 106) U (Proc.devRef .tc main_v29) = U (Proc.devRef .tc main_v29) := by
  refine ⟨?_, ?_⟩ <;> after_reads_simp

/-- The weakening leaves the enlarged maps and the picture numbers alone. -/
theorem keepF :
    after (seg 106 127) U (Proc.devRef .tc main_v23) = U (Proc.devRef .tc main_v23)
    ∧ after (seg 106 127) U (Proc.devRef .tc main_v29) = U (Proc.devRef .tc main_v29)
    ∧ after (seg 106 127) U (Proc.devRef .tc main_v42) = U (Proc.devRef .tc main_v42) := by
  refine ⟨?_, ?_, ?_⟩ <;> after_reads_simp

/-- So does the search for the joints. -/
theorem keepG :
    after (seg 127 133) U (Proc.devRef .tc main_v23) = U (Proc.devRef .tc main_v23)
    ∧ after (seg 127 133) U (Proc.devRef .tc main_v29) = U (Proc.devRef .tc main_v29)
    ∧ after (seg 127 133) U (Proc.devRef .tc main_v42) = U (Proc.devRef .tc main_v42) := by
  refine ⟨?_, ?_, ?_⟩ <;> after_reads_simp

/-- So do their rows and columns. -/
theorem keepH :
    after (seg 133 155) U (Proc.devRef .tc main_v23) = U (Proc.devRef .tc main_v23)
    ∧ after (seg 133 155) U (Proc.devRef .tc main_v29) = U (Proc.devRef .tc main_v29)
    ∧ after (seg 133 155) U (Proc.devRef .tc main_v42) = U (Proc.devRef .tc main_v42) := by
  refine ⟨?_, ?_, ?_⟩ <;> after_reads_simp

end

/-! ### The whole program -/

variable (V : Valuation τ sig (Elt Ideal))

/-- The heat maps. -/
def mapH (b : Fin 128) (n : Fin 17) (h w : Fin 48) : EReal :=
  (V (Proc.devRef .tc main_arg0) : FVec Ideal S128x17x48x48 .f32) (ix4 b n h w)
/-- The centre maps. -/
def mapT (b : Fin 128) (h w : Fin 48) : EReal :=
  (V (Proc.devRef .tc main_arg1) : FVec Ideal S128x1x48x48 .f32) (ix4 b (0 : Fin 1) h w)
/-- The regression maps. -/
def mapR (b : Fin 128) (n : Fin 34) (h w : Fin 48) : EReal :=
  (V (Proc.devRef .tc main_arg2) : FVec Ideal S128x34x48x48 .f32) (ix4 b n h w)
/-- The offset maps. -/
def mapO (b : Fin 128) (n : Fin 34) (h w : Fin 48) : EReal :=
  (V (Proc.devRef .tc main_arg3) : FVec Ideal S128x34x48x48 .f32) (ix4 b n h w)

/-- The weights once made. -/
theorem weights28 (i : Fin 48) (o : Fin 96) :
    (st V 28 (Proc.devRef .tc main_v21) : FVec Ideal S48x96 .f32) (ix2 i o) = ((wt i o : ℝ) : EReal) := by
  rw [st_seg V 0 28 (by omega)]
  exact weights _ i o

/-- The enlarged heat maps once made, and as later stretches find them. -/
theorem heat36 (b : Fin 128) (n : Fin 17) (y x : Fin 96) :
    (st V 36 (Proc.devRef .tc main_v23) : FVec Ideal S128x17x96x96 .f32) (ix4 b n y x) = res (mapH V b n) y x := by
  rw [st_seg V 28 36 (by omega)]
  refine (heat _ (weights28 V) b n y x).trans ?_
  rw [st_seg V 0 28 (by omega), (keepA _).1]
  rfl

/-- The heat maps stay through the regression. -/
theorem heat106 : st V 106 (Proc.devRef .tc main_v23) = st V 36 (Proc.devRef .tc main_v23) := by
  rw [st_seg V 64 106 (by omega), (keepE _).1, st_seg V 42 64 (by omega), (keepD _).1, st_seg V 36 42 (by omega), (keepC _).1]

/-- The heat maps stay to the last stretch. -/
theorem heat155 : st V 155 (Proc.devRef .tc main_v23) = st V 36 (Proc.devRef .tc main_v23) := by
  rw [st_seg V 133 155 (by omega), (keepH _).1, st_seg V 127 133 (by omega), (keepG _).1, st_seg V 106 127 (by omega), (keepF _).1, heat106]

/-- The enlarged offset maps as the last stretch finds them. -/
theorem offset155 (b : Fin 128) (n : Fin 34) (y x : Fin 96) :
    (st V 155 (Proc.devRef .tc main_v29) : FVec Ideal S128x34x96x96 .f32) (ix4 b n y x) = res (mapO V b n) y x := by
  rw [st_seg V 133 155 (by omega), (keepH _).2.1, st_seg V 127 133 (by omega), (keepG _).2.1, st_seg V 106 127 (by omega), (keepF _).2.1,
    st_seg V 64 106 (by omega), (keepE _).2, st_seg V 42 64 (by omega), (keepD _).2.2, st_seg V 36 42 (by omega), (keepC _).2.2,
    st_seg V 28 36 (by omega)]
  refine (offset _ (weights28 V) b n y x).trans ?_
  rw [st_seg V 0 28 (by omega), (keepA _).2.2.2]
  rfl

/-- The enlarged regression maps as the regression finds them. -/
theorem regress64 (b : Fin 128) (n : Fin 34) (y x : Fin 96) :
    (st V 64 (Proc.devRef .tc main_v27) : FVec Ideal S128x34x96x96 .f32) (ix4 b n y x) = res (mapR V b n) y x := by
  rw [st_seg V 42 64 (by omega), (keepD _).2.1, st_seg V 36 42 (by omega), (keepC _).2.1, st_seg V 28 36 (by omega)]
  refine (regress _ (weights28 V) b n y x).trans ?_
  rw [st_seg V 0 28 (by omega), (keepA _).2.2.1]
  rfl

/-- The picture numbers as the last stretch finds them. -/
theorem pictures155 (b : Fin 128) : (st V 155 (Proc.devRef .tc main_v42) : IVec S128 32) (ix1 b) = BitVec.ofNat 32 b.val := by
  rw [st_seg V 133 155 (by omega), (keepH _).2.2, st_seg V 127 133 (by omega), (keepG _).2.2, st_seg V 106 127 (by omega), (keepF _).2.2,
    st_seg V 64 106 (by omega)]
  exact pictures _ b

/-- The number of the centre. -/
theorem number42 (b : Fin 128) :
    (st V 42 (Proc.devRef .tc main_v31) : IVec S128 32) (ix1 b) = BitVec.ofNat 32 (num (cy (mapT V b)) (cx (mapT V b))) := by
  rw [st_seg V 36 42 (by omega)]
  refine centre_number _ b (res (mapT V b)) fun y x => ?_
  · rw [st_seg V 28 36 (by omega)]
    refine (centre _ (weights28 V) b y x).trans ?_
    rw [st_seg V 0 28 (by omega), (keepA _).2.1]
    rfl

/-- The row of the centre. -/
theorem row64 (b : Fin 128) : (st V 64 (Proc.devRef .tc main_v34) : IVec S128 32) (ix1 b) = BitVec.ofNat 32 (cy (mapT V b)).val := by
  rw [st_seg V 42 64 (by omega)]
  exact centre_row _ b _ _ (number42 V b)

/-- The column of the centre. -/
theorem col64 (b : Fin 128) : (st V 64 (Proc.devRef .tc main_v37) : IVec S128 32) (ix1 b) = BitVec.ofNat 32 (cx (mapT V b)).val := by
  rw [st_seg V 42 64 (by omega)]
  exact centre_col _ b _ _ (number42 V b)

/-- The regressed columns. -/
theorem regx106 (b : Fin 128) (n : Fin 17) :
    (st V 106 (Proc.devRef .tc main_v57) : FVec Ideal S128x17 .f32) (ix2 b n)
      = reg (mapT V b) (cx (mapT V b)) (mapR V b (chX n)) := by
  rw [st_seg V 64 106 (by omega)]
  refine (regress_x _ b n _ _ _ rfl (row64 V b) (col64 V b)).trans ?_
  rw [regress64]
  unfold reg
  rw [add_assoc]

/-- The regressed rows. -/
theorem regy106 (b : Fin 128) (n : Fin 17) :
    (st V 106 (Proc.devRef .tc main_v64) : FVec Ideal S128x17 .f32) (ix2 b n)
      = reg (mapT V b) (cy (mapT V b)) (mapR V b (chY n)) := by
  rw [st_seg V 64 106 (by omega)]
  refine (regress_y _ b n _ _ _ rfl (row64 V b) (col64 V b)).trans ?_
  rw [regress64]
  unfold reg
  rw [add_assoc]

/-- The number of a joint's place. -/
theorem number133 (b : Fin 128) (n : Fin 17) :
    (st V 133 (Proc.devRef .tc main_v85) : IVec S128x17 32) (ix2 b n)
      = BitVec.ofNat 32 (num (atY (mapH V) (mapT V) (mapR V) b n) (atX (mapH V) (mapT V) (mapR V) b n)) := by
  obtain ⟨gx, hx⟩ := reg_real (mapT V b) (cx (mapT V b)) (mapR V b (chX n))
  obtain ⟨gy, hy⟩ := reg_real (mapT V b) (cy (mapT V b)) (mapR V b (chY n))
  obtain ⟨ty, tx⟩ := far_top (mapH V b n) gy gx
  have ey : atY (mapH V) (mapT V) (mapR V) b n = topY (far (mapH V b n) gy gx) := by
    unfold atY jy
    rw [hx, hy, ty]
  have ex : atX (mapH V) (mapT V) (mapR V) b n = topX (far (mapH V b n) gy gx) := by
    unfold atX jx
    rw [hx, hy, tx]
  rw [ey, ex, st_seg V 127 133 (by omega)]
  refine joint_number _ b n _ fun y x => ?_
  rw [st_seg V 106 127 (by omega)]
  refine weakened _ b n _ gy gx (fun y x => ?_) ((regx106 V b n).trans hx) ((regy106 V b n).trans hy) (fun x => ?_) (fun y => ?_) y x
  · rw [heat106, heat36]
  · rw [st_seg V 64 106 (by omega)]
    exact grid_x _ x
  · rw [st_seg V 64 106 (by omega)]
    exact grid_y _ y

/-- The reference's result. -/
theorem value (b : Fin 128) (q : Fin 51) (hq : q.val / 3 < 17) :
    (after ops V (Proc.devRef .tc main_v128) : FVec Ideal S128x51 .f32) (ix2 b q)
      = joint (mapH V) (mapT V) (mapR V) (mapO V) b ⟨q.val / 3, hq⟩ ⟨q.val % 3, by omega⟩ := by
  rw [← st_all, st_seg V 155 194 (by omega)]
  refine (result _ b q (atY (mapH V) (mapT V) (mapR V) b ⟨q.val / 3, hq⟩) (atX (mapH V) (mapT V) (mapR V) b ⟨q.val / 3, hq⟩) hq
    (pictures155 V b) ?_ ?_ (mapH V b ⟨q.val / 3, hq⟩) (mapO V b (chX ⟨q.val / 3, hq⟩)) (mapO V b (chY ⟨q.val / 3, hq⟩))
    (fun y x => ?_) (offset155 V b _) (offset155 V b _)).trans rfl
  · rw [st_seg V 133 155 (by omega)]
    exact joint_row _ b _ _ _ (number133 V b _)
  · rw [st_seg V 133 155 (by omega)]
    exact joint_col _ b _ _ _ (number133 V b _)
  · rw [heat155, heat36]

end Cert.ReferenceIdeal.Line
-- ==== Proof.Equal.lean ====
module

public import proofs.«01_k».proof.Defs
public import proofs.«01_k».proof.Proof.KRun
public import proofs.«01_k».proof.Proof.RefRun
public import proofs.«01_k».proof.Proof.PreFacts
public import Idealize.ShloMosaic.Lib.ReduceAll

/-! Kernel and reference leave equal results on heat maps and centre maps without plus infinity. -/

@[expose] public section

set_option maxRecDepth 16384

noncomputable section

open Idealize.ShloMosaic Idealize.ShloMosaic.TcCoe Idealize.SL.Sem Idealize.ShloMosaic.StableHlo
open Cert.Joint

namespace Cert.Proof

/-- An extended real below plus infinity is not plus infinity. -/
theorem ne_top (v : EReal)
    (h : FloatOps.cmpf (F := Ideal) (φ := .f32) .olt v (Ideal.ofBits .f32 0x7F800000#32) = 1#1) : v ≠ ⊤ := by
  have ht : Ideal.ofBits .f32 0x7F800000#32 = ⊤ := by simp [Ideal.ofBits, Ideal.ieee]
  rw [ht] at h
  rintro rfl
  exact absurd h (by show ¬ Ideal.cmp .olt ⊤ ⊤ = 1#1; simp [Ideal.cmp])

/-- The precondition says that every heat-map and every centre-map entry is other than plus infinity. -/
theorem below [Cert.Pre_below_infinity.Facts] (a0 : FVec Ideal Cert.Pre_below_infinity.S128x17x48x48 .f32) (a1 : FVec Ideal Cert.Pre_below_infinity.S128x1x48x48 .f32)
    (a2 a3 : FVec Ideal Cert.Pre_below_infinity.S128x34x48x48 .f32)
    (h : Cert.Pre_below_infinity.fn (F := Ideal) a0 a1 a2 a3 = fun _ => 1#1) :
    (∀ i, a0 i ≠ ⊤) ∧ ∀ i, a1 i ≠ ⊤ := by
  have h' := congrFun h (Shape.Idx.first (by decide))
  unfold Cert.Pre_below_infinity.fn at h'
  dsimp only at h'
  obtain ⟨e0, e1⟩ := IntOp.andi_eq_one.1 h'
  exact ⟨fun i => ne_top _ (Host.reduce_andi_all _ _ _ _ _ e0 i), fun i => ne_top _ (Host.reduce_andi_all _ _ _ _ _ e1 i)⟩

/-- Kernel and reference, over the extended reals. -/
theorem equal [Cert.Pre_below_infinity.Facts] :
    Cert.algebraic_KernelIdeal_ReferenceIdeal_pre_below_infinity := by
  intro m g m' g' hp ha
  have f0 : ∀ c B n h w, Cert.KernelIdeal.Value.argH m c B n h w ≠ ⊤ :=
    fun c B n h w => (below _ _ _ _ (hp c)).1 (ix4 B n h w)
  have f1 : ∀ c B h w, Cert.KernelIdeal.Value.argT m c B h w ≠ ⊤ :=
    fun c B h w => (below _ _ _ _ (hp c)).2 (ix4 B 0 h w)
  refine ⟨fun c => Cert.KernelIdeal.Value.out m c, Cert.KernelIdeal.Value.run m g f0 f1, ?_⟩
  refine (θ_run Cert.ReferenceIdeal.defs _ _).mono (fun r h c => ⟨(h c _).trans ?_,
      (h c _).trans (Cert.ReferenceIdeal.Line.keep0 _), (h c _).trans (Cert.ReferenceIdeal.Line.keep1 _),
      (h c _).trans (Cert.ReferenceIdeal.Line.keep2 _), (h c _).trans (Cert.ReferenceIdeal.Line.keep3 _)⟩) (Cert.ReferenceIdeal.Line.run m' g')
  obtain ⟨h0, h1, h2, h3⟩ := ha c
  have eH : Cert.ReferenceIdeal.Line.mapH (launchContents m' c) = Cert.KernelIdeal.Value.argH m c :=
    funext fun B => funext fun n => funext fun h => funext fun w => congrFun h0 (ix4 B n h w)
  have eT : Cert.ReferenceIdeal.Line.mapT (launchContents m' c) = Cert.KernelIdeal.Value.argT m c :=
    funext fun B => funext fun h => funext fun w => congrFun h1 (ix4 B 0 h w)
  have eR : Cert.ReferenceIdeal.Line.mapR (launchContents m' c) = Cert.KernelIdeal.Value.argR m c :=
    funext fun B => funext fun n => funext fun h => funext fun w => congrFun h2 (ix4 B n h w)
  have eO : Cert.ReferenceIdeal.Line.mapO (launchContents m' c) = Cert.KernelIdeal.Value.argO m c :=
    funext fun B => funext fun n => funext fun h => funext fun w => congrFun h3 (ix4 B n h w)
  funext j
  obtain ⟨B, q, rfl⟩ : ∃ (B : Fin 128) (q : Fin 51), j = ix2 B q := ⟨j 0, j 1, by blk_ext⟩
  refine (Cert.ReferenceIdeal.Line.value _ B q (by omega)).trans ?_
  rw [eH, eT, eR, eO]
  rfl

end Cert.Proof
-- ==== Proof.lean ====
/-
  The certificate's claims: the three programs run, leave their arguments alone and end with every counter at zero; the
  idealized kernel is the kernel's own text; and, for heat maps and centre maps without plus infinity, the idealized
  kernel and the reference leave equal results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefLine
public import proofs.«01_k».proof.Proof.PreFacts
public import proofs.«01_k».proof.Proof.Equal
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The reference's frame: its arguments are written by no operation, and it declares no semaphore. -/
theorem frame_ri : Cert.quiescent_ReferenceIdeal := by
  intro m ρ _
  refine (θ_run Cert.ReferenceIdeal.defs _ _).mono (fun r h => ⟨fun c => ⟨(h c _).trans ?_, (h c _).trans ?_, (h c _).trans ?_, (h c _).trans ?_⟩,
      Idealize.ShloMosaic.sem_eq_zero_of_no_sems (by decide) r.2⟩) (Cert.ReferenceIdeal.Line.run m ρ)
  · exact Cert.ReferenceIdeal.Line.keep0 _
  · exact Cert.ReferenceIdeal.Line.keep1 _
  · exact Cert.ReferenceIdeal.Line.keep2 _
  · exact Cert.ReferenceIdeal.Line.keep3 _

/-- Everything the certificate claims. -/
theorem claim : Cert.Claim := ⟨Cert.Kernel.Gen.facts, Cert.KernelIdeal.Gen.facts, Cert.ReferenceIdeal.Gen.facts, Cert.Pre_below_infinity.facts,
  frame_p, frame_pi, fun m ρ _ => frame_pi m ρ trivial, frame_ri, fun m ρ _ => frame_ri m ρ trivial, trivial, @equal Cert.Pre_below_infinity.facts⟩

end Cert.Proof

end
